-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v9_1)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v9_1) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v9_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v15) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x64x32x32 .f32) (main_arg1 : FVec F S1024x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S16x1x1024 : Shape := ⟨3, ![16, 1, 1024]⟩
abbrev S1x1 : Shape := ⟨2, ![1, 1]⟩
abbrev S1x64x1024 : Shape := ⟨3, ![1, 64, 1024]⟩
abbrev S1024x1 : Shape := ⟨2, ![1024, 1]⟩
abbrev S1024x1024 : Shape := ⟨2, ![1024, 1024]⟩
abbrev S1x1x1024 : Shape := ⟨3, ![1, 1, 1024]⟩
abbrev S64x1024 : Shape := ⟨2, ![64, 1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 23
  | .vmem => 15
  | .smem => 3
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x32x32x64, .f32⟩
  | .hbm, ⟨4, _⟩ => ⟨S16384x64, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16x1x1024, .i32⟩
  | .hbm, ⟨16, _⟩ => ⟨S16x64x1024, .f32⟩
  | .hbm, ⟨17, _⟩ => ⟨S1x1, .f32⟩
  | .hbm, ⟨18, _⟩ => ⟨S1x1, .f32⟩
  | .hbm, ⟨19, _⟩ => ⟨S16384, .i32⟩
  | .hbm, ⟨20, _⟩ => ⟨S16x64x32x32, .f32⟩
  | .hbm, ⟨21, _⟩ => ⟨S_, .f32⟩
  | .hbm, ⟨22, _⟩ => ⟨S_, .f32⟩
  | .local _ .vmem, ⟨0, _⟩ => ⟨S1x64x1024, .f32⟩
  | .local _ .vmem, ⟨1, _⟩ => ⟨S1x64x1024, .f32⟩
  | .local _ .vmem, ⟨2, _⟩ => ⟨S1024x1, .f32⟩
  | .local _ .vmem, ⟨3, _⟩ => ⟨S1024x1, .f32⟩
  | .local _ .vmem, ⟨4, _⟩ => ⟨S1024x64, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1x1024, .i32⟩
  | .local _ .vmem, ⟨11, _⟩ => ⟨S1x1x1024, .i32⟩
  | .local _ .vmem, ⟨12, _⟩ => ⟨S1x64x1024, .f32⟩
  | .local _ .vmem, ⟨13, _⟩ => ⟨S1x64x1024, .f32⟩
  | .local _ .vmem, ⟨14, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg8_0 : Ref sig .tc := ⟨.smem, 0, rfl⟩
abbrev cc0_stg9_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v53 : BitVec 1 := Scalar.cmpi .eq arg0 c15_i32
  let v54 : BitVec 32 := Scalar.extui v53
  let c0_i32_33 : BitVec 32 := 0#32
  let v55 : BitVec 1 := Scalar.cmpi .ne v54 c0_i32_33
  v55

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S1, .i32⟩
  | .hbm, ⟨55, _⟩ => ⟨S_, .i32⟩
  | .hbm, ⟨56, _⟩ => ⟨S16384x1, .i32⟩
  | .hbm, ⟨57, _⟩ => ⟨S16384x1, .i1⟩
  | .hbm, ⟨58, _⟩ => ⟨S1x1, .i32⟩
  | .hbm, ⟨59, _⟩ => ⟨S16384x1, .i32⟩
  | .hbm, ⟨60, _⟩ => ⟨S16384x1, .i1⟩
  | .hbm, ⟨61, _⟩ => ⟨S16384x1, .i1⟩
  | .hbm, ⟨62, _⟩ => ⟨S_, .i1⟩
  | .hbm, ⟨63, _⟩ => ⟨S16384, .i1⟩
  | .hbm, ⟨64, _⟩ => ⟨S16384x64, .f32⟩
  | .hbm, ⟨65, _⟩ => ⟨S16384x64, .i1⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S16x32x32x64, .f32⟩
  | .hbm, ⟨70, _⟩ => ⟨S16x64x32x32, .f32⟩
  | .hbm, ⟨71, _⟩ => ⟨S16x64x32x32, .f32⟩
  | .hbm, ⟨72, _⟩ => ⟨S16x64x32x32, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16x64x32x32, .f32⟩
  | .hbm, ⟨78, _⟩ => ⟨S16x64x32x32, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x64x32x32, .f32⟩
  | .hbm, ⟨87, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_cst : Ref sig .tc := ⟨.hbm, 66, rfl⟩
abbrev main_call2_v15 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_8 : Ref sig .tc := ⟨.hbm, 79, rfl⟩
abbrev main_v37 : Ref sig .tc := ⟨.hbm, 80, rfl⟩
abbrev main_cst_9 : Ref sig .tc := ⟨.hbm, 81, rfl⟩
abbrev main_v38 : Ref sig .tc := ⟨.hbm, 82, rfl⟩
abbrev main_cst_10 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩

abbrev nD : Nat := 1
abbrev τ : Topo := Topo.v7x

variable {F : FTy → Type} [FloatOps F]
-- ==== Proof.Ref.lean ====
/- The reference program's run: its host operations as a list, and each result as a plain function of the
   two arguments — the distances, the nearest code word's index, the one-hot rows, the perplexity, the loss
   and the straight-through output. -/
module

public import proofs.«01_k».proof.Proof.Gen.ReferenceIdeal
public import Idealize.ShloMosaic.Lib.StableHlo.Run

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The results as functions of the arguments -/

/-- The input as rows, channel last: row `(b, h, w)` of the flattened input. -/
def rows (z : FVec F S16x64x32x32 .f32) : FVec F S16384x64 .f32 :=
  shapeCast _ (transpose S16x32x32x64 [0, 2, 3, 1] z transposes_S16x64x32x32_S16x32x32x64_0_2_3_1) shapeCasts_S16x32x32x64_S16384x64

/-- The rows' squared norms. -/
def rowSq (z : FVec F S16x64x32x32 .f32) : FVec F S16384 .f32 :=
  Host.reduceAdd (mulf (rows z) (rows z)) (constant S_ .f32 0x00000000#32) reducesTo_S16384x64_S16384_d1 h_S_

/-- The code words' squared norms. -/
def codeSq (cb : FVec F S1024x64 .f32) : FVec F S1024 .f32 :=
  Host.reduceAdd (mulf cb cb) (constant S_ .f32 0x00000000#32) reducesTo_S1024x64_S1024_d1 h_S_

/-- The distances of every row to every code word. -/
def dist (z : FVec F S16x64x32x32 .f32) (cb : FVec F S1024x64 .f32) : FVec F S16384x1024 .f32 :=
  subf (addf (broadcastInDim S16384x1024 ![0, 1] bcast_S16384x1_S16384x1024_0_1 (broadcastInDim S16384x1 ![0] bcast_S16384_S16384x1_0 (rowSq z)))
      (broadcastInDim S16384x1024 ![0, 1] bcast_S1x1024_S16384x1024_0_1 (broadcastInDim S1x1024 ![1] bcast_S1024_S1x1024_1 (codeSq cb))))
    (mulf (broadcastInDim S16384x1024 ![] bcast_S_S16384x1024 (constant S_ .f32 0x40000000#32))
      (Host.dotGeneral dot_S16384x64_S64x1024_S16384x1024_1_0_0_1_n_n none (rows z) (transpose S64x1024 [1, 0] cb transposes_S1024x64_S64x1024_1_0)))

/-- The position of each row's least distance. -/
def argm (d : FVec F S16384x1024 .f32) : IVec S16384 32 :=
  fun j => (Host.argReduce reducer_argmin_f32_i32 d (iotaInDim S16384x1024 32 1) (constant S_ .f32 0x7F800000#32) (constantI S_ 32 0#32) reducesTo_S16384x1024_S16384_d1 h_S_ j).2

/-- The indices as one-hot rows. -/
def onehot (i : IVec S16384 32) : FVec F S16384x1024 .f32 :=
  uitofp .f32 (cmpi .eq (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The perplexity of the one-hot rows: the exponential of the mean row's entropy. -/
def perp (e : FVec F S16384x1024 .f32) : FVec F S_ .f32 :=
  let p : FVec F S1024 .f32 := Host.divf (Host.reduceAdd e (constant S_ .f32 0x00000000#32) reducesTo_S16384x1024_S1024_d0 h_S_)
    (broadcastInDim S1024 ![] bcast_S_S1024 (constant S_ .f32 0x46800000#32))
  Host.exp (Host.negf (Host.reduceAdd (mulf p (Host.log (addf p (broadcastInDim S1024 ![] bcast_S_S1024 (constant S_ .f32 0x2EDBE6FF#32)))))
    (constant S_ .f32 0x00000000#32) reducesTo_S1024_S_d0 h_S_))

/-- An index, the negative ones counted from the end, as a column. -/
def wrap (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which indices name a code word. -/
def inRange (i : IVec S16384 32) : IVec S16384 1 :=
  Host.reduce IntOp.andi
    (andi (cmpi .sge (wrap i) (broadcastInDim S16384x1 ![] bcast_S_S16384x1 (constantI S_ 32 0#32)))
      (cmpi .sle (wrap i) (broadcastInDim S16384x1 ![0, 1] bcast_S1x1_S16384x1_0_1 (broadcastInDim S1x1 ![1] bcast_S1_S1x1_1 (constantI S1 32 1023#32)))))
    (constantI S_ 1 1#1) reducesTo_S16384x1_S16384_d1 h_S_

/-- The code words at the indices, a row each. -/
def taken (cb : FVec F S1024x64 .f32) (i : IVec S16384 32) : FVec F S16384x64 .f32 :=
  select (broadcastInDim S16384x64 ![0] bcast_S16384_S16384x64_0 (inRange i))
    (Host.gather gather_S1024x64_S16384x1_S16384x64_1_0_n_n_0_1_164 cb (wrap i))
    (broadcastInDim S16384x64 ![] bcast_S_S16384x64 (constant S_ .f32 0x7FC00000#32))

/-- Rows laid out as the input is, channel second. -/
def unrows (q : FVec F S16384x64 .f32) : FVec F S16x64x32x32 .f32 :=
  transpose S16x64x32x32 [0, 3, 1, 2] (shapeCast S16x32x32x64 q shapeCasts_S16384x64_S16x32x32x64) transposes_S16x32x32x64_S16x64x32x32_0_3_1_2

/-- The mean squared difference of two arrays. -/
def mse (q z : FVec F S16x64x32x32 .f32) : FVec F S_ .f32 :=
  Host.divf (Host.reduceAdd (mulf (subf q z) (subf q z)) (constant S_ .f32 0x00000000#32) reducesTo_S16x64x32x32_S_d0_1_2_3 h_S_)
    (constant S_ .f32 0x49800000#32)

/-- The loss: a quarter of the mean squared difference plus the mean squared difference. -/
def loss (q z : FVec F S16x64x32x32 .f32) : FVec F S_ .f32 :=
  addf (mulf (constant S_ .f32 0x3E800000#32) (mse q z)) (mse q z)

/-- The straight-through output. -/
def through (q z : FVec F S16x64x32x32 .f32) : FVec F S16x64x32x32 .f32 := addf z (subf q z)

/-! ## The run -/

/-- The operations of @main in order; a called function's operations stand in its call's place. -/
abbrev ops : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16) (fun x y u v j => (Host.argReduce reducer_argmin_f32_i32 x y u v reducesTo_S16384x1024_S16384_d1 h_S_ j).2),
    TRef.unary (TRef.of (T := ⟨S16384, .i32⟩) main_v16) (TRef.of (T := ⟨S16384x1, .i32⟩) main_call1_v0) (broadcastInDim S16384x1 ![0] bcast_S16384_S16384x1_0),
    TRef.nullary (TRef.of (T := ⟨S1x1024, .i32⟩) main_call1_v1) (iotaInDim S1x1024 32 1),
    TRef.unary (TRef.of (T := ⟨S16384x1, .i32⟩) main_call1_v0) (TRef.of (T := ⟨S16384x1024, .i32⟩) main_call1_v2) (broadcastInDim S16384x1024 ![0, 1] bcast_S16384x1_S16384x1024_0_1),
    TRef.unary (TRef.of (T := ⟨S1x1024, .i32⟩) main_call1_v1) (TRef.of (T := ⟨S16384x1024, .i32⟩) main_call1_v3) (broadcastInDim S16384x1024 ![0, 1] bcast_S1x1024_S16384x1024_0_1),
    TRef.binary (TRef.of (T := ⟨S16384x1024, .i32⟩) main_call1_v2) (TRef.of (T := ⟨S16384x1024, .i32⟩) main_call1_v3) (TRef.of (T := ⟨S16384x1024, .i1⟩) main_call1_v4) (cmpi .eq),
    TRef.unary (TRef.of (T := ⟨S16384x1024, .i1⟩) main_call1_v4) (TRef.of (T := ⟨S16384x1024, .f32⟩) main_v17) (uitofp .f32),
    nullary main_cst_2 (constant S_ .f32 0x00000000#32),
    binary main_v17 main_cst_2 main_v18 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_3 (constant S_ .f32 0x46800000#32),
    unary main_cst_3 main_v19 (broadcastInDim S1024 ![] bcast_S_S1024 : (⟨S_, .f32⟩ : BufTy).Contents (Elt F) → (⟨S1024, .f32⟩ : BufTy).Contents (Elt F)),
    binary main_v18 main_v19 main_v20 (Host.divf : (⟨S1024, .f32⟩ : BufTy).Contents (Elt F) → (⟨S1024, .f32⟩ : BufTy).Contents (Elt F) → (⟨S1024, .f32⟩ : BufTy).Contents (Elt F)),
    nullary main_cst_4 (constant S_ .f32 0x2EDBE6FF#32),
    unary main_cst_4 main_v21 (broadcastInDim S1024 ![] bcast_S_S1024 : (⟨S_, .f32⟩ : BufTy).Contents (Elt F) → (⟨S1024, .f32⟩ : BufTy).Contents (Elt F)),
    binary main_v20 main_v21 main_v22 (addf : (⟨S1024, .f32⟩ : BufTy).Contents (Elt F) → (⟨S1024, .f32⟩ : BufTy).Contents (Elt F) → (⟨S1024, .f32⟩ : BufTy).Contents (Elt F)),
    unary main_v22 main_v23 (Host.log : (⟨S1024, .f32⟩ : BufTy).Contents (Elt F) → (⟨S1024, .f32⟩ : BufTy).Contents (Elt F)),
    binary main_v20 main_v23 main_v24 (mulf : (⟨S1024, .f32⟩ : BufTy).Contents (Elt F) → (⟨S1024, .f32⟩ : BufTy).Contents (Elt F) → (⟨S1024, .f32⟩ : BufTy).Contents (Elt F)),
    nullary main_cst_5 (constant S_ .f32 0x00000000#32),
    binary main_v24 main_cst_5 main_v25 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)),
    unary main_v26 main_v27 (Host.exp : (⟨S_, .f32⟩ : BufTy).Contents (Elt F) → (⟨S_, .f32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16384, .i32⟩) main_call2_v0) (broadcastInDim S16384 ![] bcast_S_S16384),
    TRef.binary (TRef.of (T := ⟨S16384, .i32⟩) main_v16) (TRef.of (T := ⟨S16384, .i32⟩) main_call2_v0) (TRef.of (T := ⟨S16384, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S16384, .i32⟩) main_call2_v2) (broadcastInDim S16384 ![] bcast_S_S16384),
    TRef.binary (TRef.of (T := ⟨S16384, .i32⟩) main_v16) (TRef.of (T := ⟨S16384, .i32⟩) main_call2_v2) (TRef.of (T := ⟨S16384, .i32⟩) main_call2_v3) addi,
    TRef.ternary (TRef.of (T := ⟨S16384, .i1⟩) main_call2_v1) (TRef.of (T := ⟨S16384, .i32⟩) main_call2_v3) (TRef.of (T := ⟨S16384, .i32⟩) main_v16) (TRef.of (T := ⟨S16384, .i32⟩) main_call2_v4) select,
    TRef.unary (TRef.of (T := ⟨S16384, .i32⟩) main_call2_v4) (TRef.of (T := ⟨S16384x1, .i32⟩) main_call2_v5) (broadcastInDim S16384x1 ![0] bcast_S16384_S16384x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S16384x1, .i32⟩) main_call2_v6) (broadcastInDim S16384x1 ![] bcast_S_S16384x1),
    TRef.binary (TRef.of (T := ⟨S16384x1, .i32⟩) main_call2_v5) (TRef.of (T := ⟨S16384x1, .i32⟩) main_call2_v6) (TRef.of (T := ⟨S16384x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S16384x1, .i32⟩) main_call2_v9) (broadcastInDim S16384x1 ![0, 1] bcast_S1x1_S16384x1_0_1),
    TRef.binary (TRef.of (T := ⟨S16384x1, .i32⟩) main_call2_v5) (TRef.of (T := ⟨S16384x1, .i32⟩) main_call2_v9) (TRef.of (T := ⟨S16384x1, .i1⟩) main_call2_v10) (cmpi .sle),
    TRef.binary (TRef.of (T := ⟨S16384x1, .i1⟩) main_call2_v7) (TRef.of (T := ⟨S16384x1, .i1⟩) main_call2_v10) (TRef.of (T := ⟨S16384x1, .i1⟩) main_call2_v11) andi,
    TRef.nullary (TRef.of (T := ⟨S_, .i1⟩) main_call2_c_3) (constantI S_ 1 1#1),
    TRef.binary (TRef.of (T := ⟨S16384x1, .i1⟩) main_call2_v11) (TRef.of (T := ⟨S_, .i1⟩) main_call2_c_3) (TRef.of (T := ⟨S16384, .i1⟩) main_call2_v12) (fun x v => Host.reduce IntOp.andi x v reducesTo_S16384x1_S16384_d1 h_S_),
    TRef.binary (TRef.of (T := ⟨S1024x64, .f32⟩) main_arg1) (TRef.of (T := ⟨S16384x1, .i32⟩) main_call2_v5) (TRef.of (T := ⟨S16384x64, .f32⟩) main_call2_v13) (fun x i => Host.gather gather_S1024x64_S16384x1_S16384x64_1_0_n_n_0_1_164 x i),
    TRef.unary (TRef.of (T := ⟨S16384, .i1⟩) main_call2_v12) (TRef.of (T := ⟨S16384x64, .i1⟩) main_call2_v14) (broadcastInDim S16384x64 ![0] bcast_S16384_S16384x64_0),
    TRef.nullary (TRef.of (T := ⟨S_, .f32⟩) main_call2_cst) (constant S_ .f32 0x7FC00000#32),
    TRef.unary (TRef.of (T := ⟨S_, .f32⟩) main_call2_cst) (TRef.of (T := ⟨S16384x64, .f32⟩) main_call2_v15) (broadcastInDim S16384x64 ![] bcast_S_S16384x64),
    TRef.ternary (TRef.of (T := ⟨S16384x64, .i1⟩) main_call2_v14) (TRef.of (T := ⟨S16384x64, .f32⟩) main_call2_v13) (TRef.of (T := ⟨S16384x64, .f32⟩) main_call2_v15) (TRef.of (T := ⟨S16384x64, .f32⟩) main_v28) select,
    reshape main_v28 main_v29 (rfl : (.f32 : EltTy) = .f32) shapeCasts_S16384x64_S16x32x32x64,
    unary main_v29 main_v30 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)),
    binary main_v30 main_arg0 main_v31 (subf : (⟨S16x64x32x32, .f32⟩ : BufTy).Contents (Elt F) → (⟨S16x64x32x32, .f32⟩ : BufTy).Contents (Elt F) → (⟨S16x64x32x32, .f32⟩ : BufTy).Contents (Elt F)),
    binary main_v31 main_v31 main_v32 (mulf : (⟨S16x64x32x32, .f32⟩ : BufTy).Contents (Elt F) → (⟨S16x64x32x32, .f32⟩ : BufTy).Contents (Elt F) → (⟨S16x64x32x32, .f32⟩ : BufTy).Contents (Elt F)),
    nullary main_cst_6 (constant S_ .f32 0x00000000#32),
    binary main_v32 main_cst_6 main_v33 ((fun x v => Host.reduceAdd x v reducesTo_S16x64x32x32_S_d0_1_2_3 h_S_) : (⟨S16x64x32x32, .f32⟩ : BufTy).Contents (Elt F) → (⟨S_, .f32⟩ : BufTy).Contents (Elt F) → (⟨S_, .f32⟩ : BufTy).Contents (Elt F)),
    nullary main_cst_7 (constant S_ .f32 0x49800000#32),
    binary main_v33 main_cst_7 main_v34 (Host.divf : (⟨S_, .f32⟩ : BufTy).Contents (Elt F) → (⟨S_, .f32⟩ : BufTy).Contents (Elt F) → (⟨S_, .f32⟩ : BufTy).Contents (Elt F)),
    binary main_v30 main_arg0 main_v35 (subf : (⟨S16x64x32x32, .f32⟩ : BufTy).Contents (Elt F) → (⟨S16x64x32x32, .f32⟩ : BufTy).Contents (Elt F) → (⟨S16x64x32x32, .f32⟩ : BufTy).Contents (Elt F)),
    binary main_v35 main_v35 main_v36 (mulf : (⟨S16x64x32x32, .f32⟩ : BufTy).Contents (Elt F) → (⟨S16x64x32x32, .f32⟩ : BufTy).Contents (Elt F) → (⟨S16x64x32x32, .f32⟩ : BufTy).Contents (Elt F)),
    nullary main_cst_8 (constant S_ .f32 0x00000000#32),
    binary main_v36 main_cst_8 main_v37 ((fun x v => Host.reduceAdd x v reducesTo_S16x64x32x32_S_d0_1_2_3 h_S_) : (⟨S16x64x32x32, .f32⟩ : BufTy).Contents (Elt F) → (⟨S_, .f32⟩ : BufTy).Contents (Elt F) → (⟨S_, .f32⟩ : BufTy).Contents (Elt F)),
    nullary main_cst_9 (constant S_ .f32 0x49800000#32),
    binary main_v37 main_cst_9 main_v38 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v34 main_v39 (mulf : (⟨S_, .f32⟩ : BufTy).Contents (Elt F) → (⟨S_, .f32⟩ : BufTy).Contents (Elt F) → (⟨S_, .f32⟩ : BufTy).Contents (Elt F)),
    binary main_v39 main_v38 main_v40 (addf : (⟨S_, .f32⟩ : BufTy).Contents (Elt F) → (⟨S_, .f32⟩ : BufTy).Contents (Elt F) → (⟨S_, .f32⟩ : BufTy).Contents (Elt F)),
    binary main_v30 main_arg0 main_v41 (subf : (⟨S16x64x32x32, .f32⟩ : BufTy).Contents (Elt F) → (⟨S16x64x32x32, .f32⟩ : BufTy).Contents (Elt F) → (⟨S16x64x32x32, .f32⟩ : BufTy).Contents (Elt F)),
    binary main_arg0 main_v41 main_v42 (addf : (⟨S16x64x32x32, .f32⟩ : BufTy).Contents (Elt F) → (⟨S16x64x32x32, .f32⟩ : BufTy).Contents (Elt F) → (⟨S16x64x32x32, .f32⟩ : BufTy).Contents (Elt F)) ]

set_option maxHeartbeats 4000000 in
/-- @main is its operations, one after another. -/
theorem main_eq (c : Dev nD) : main (F := F) c = seq ops := rfl

/-- The program has no buffer of a scope. -/
theorem scopedRefs_none : (Finset.univ.filter fun b : Ref sig .tc => b.isScoped) = ∅ := by decide

/-- The program has no semaphore of a scope. -/
theorem scopedSems_none : (Finset.univ.filter fun sm : SemLoc sig => sm.isScoped .tc) = ∅ := by decide

/-- Every operation works on the device's buffers. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- The first argument on a device. -/
abbrev argZ (m : (ℓ : Loc nD τ sig) → Buf (Elt F) ℓ) (c : Dev nD) : FVec F S16x64x32x32 .f32 := m ((c.tc : Thread nD τ).loc main_arg0)

/-- The second argument on a device. -/
abbrev argC (m : (ℓ : Loc nD τ sig) → Buf (Elt F) ℓ) (c : Dev nD) : FVec F S1024x64 .f32 := m ((c.tc : Thread nD τ).loc main_arg1)

set_option maxHeartbeats 33600000 in
/-- Every weakly fair execution of the reference ends with its six results the functions above of the arguments, and
    with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = through (unrows (taken (argC m c) (argm (dist (argZ m c) (argC m c))))) (argZ m c)
      ∧ r.2.mem ((c.tc : Thread nD τ).loc main_v40) = loss (unrows (taken (argC m c) (argm (dist (argZ m c) (argC m c))))) (argZ m c)
      ∧ r.2.mem ((c.tc : Thread nD τ).loc main_v27) = perp (F := F) (onehot (argm (dist (argZ m c) (argC m c))))
      ∧ r.2.mem ((c.tc : Thread nD τ).loc main_v17) = onehot (F := F) (argm (dist (argZ m c) (argC m c)))
      ∧ r.2.mem ((c.tc : Thread nD τ).loc main_v16) = argm (dist (argZ m c) (argC m c))
      ∧ r.2.mem ((c.tc : Thread nD τ).loc main_v15) = dist (argZ m c) (argC m c)
      ∧ r.2.mem ((c.tc : Thread nD τ).loc main_arg0) = argZ m c
      ∧ r.2.mem ((c.tc : Thread nD τ).loc main_arg1) = argC m c :=
  (θ_run defs _ _).mono (fun _ h c => ⟨(h c main_v42).trans (by simp only [ops, TRef.binary, TRef.nullary, TRef.ternary, TRef.quaternary, TRef.unary, TRef.toBuf, TRef.ofBuf, cast_eq]; after_results_simp <;> rfl),
      (h c main_v40).trans (by simp only [ops, TRef.binary, TRef.nullary, TRef.ternary, TRef.quaternary, TRef.unary, TRef.toBuf, TRef.ofBuf, cast_eq]; after_results_simp <;> rfl),
      (h c main_v27).trans (by simp only [ops, TRef.binary, TRef.nullary, TRef.ternary, TRef.quaternary, TRef.unary, TRef.toBuf, TRef.ofBuf, cast_eq]; after_results_simp <;> rfl),
      (h c main_v17).trans (by simp only [ops, TRef.binary, TRef.nullary, TRef.ternary, TRef.quaternary, TRef.unary, TRef.toBuf, TRef.ofBuf, cast_eq]; after_results_simp <;> rfl),
      (h c main_v16).trans (by simp only [ops, TRef.binary, TRef.nullary, TRef.ternary, TRef.quaternary, TRef.unary, TRef.toBuf, TRef.ofBuf, cast_eq]; after_results_simp <;> rfl),
      (h c main_v15).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl)⟩)
    (run_seq scopedRefs_none scopedSems_none defs main (fun _ => ops) main_eq (fun _ => ops_sub) m ρ)

end Cert.ReferenceIdeal.Hand

end
-- ==== Proof.Near.lean ====
/- The first position of a row's least entry: what it is, that it is unique, and the two folds that find it —
   the least of the positions where the entry is the row's minimum, and the fold that carries the best
   (entry, position) pair. -/
module

public import Idealize.ShloMosaic.PureOps
public import Idealize.ShloMosaic.PureOps.Ideal.Laws
public import Idealize.ShloMosaic.Lib.Tactic

@[expose] public section

set_option maxRecDepth 16384

noncomputable section

namespace Cert.Near

open Idealize.ShloMosaic

/-- Every row has a first position of its least entry. -/
theorem exists_near (f : Fin 1024 → EReal) : ∃ a, (∀ k, f a ≤ f k) ∧ ∀ k, f k ≤ f a → a ≤ k := by
  classical
  obtain ⟨a0, h0⟩ := Finite.exists_min f
  have hne : (Finset.univ.filter fun k => f k ≤ f a0).Nonempty := ⟨a0, by simp⟩
  refine ⟨Finset.min' _ hne, fun k => ?_, fun k hk => Finset.min'_le _ k ?_⟩
  · exact (Finset.mem_filter.1 (Finset.min'_mem _ hne)).2.trans (h0 k)
  · exact Finset.mem_filter.2 ⟨Finset.mem_univ _, hk.trans (Finset.mem_filter.1 (Finset.min'_mem _ hne)).2⟩

/-- The first position of the row's least entry. -/
def near (f : Fin 1024 → EReal) : Fin 1024 := Classical.choose (exists_near f)

/-- The entry there is least. -/
theorem near_le (f : Fin 1024 → EReal) (k : Fin 1024) : f (near f) ≤ f k := (Classical.choose_spec (exists_near f)).1 k

/-- No earlier entry is as small. -/
theorem near_first (f : Fin 1024 → EReal) (k : Fin 1024) (h : f k ≤ f (near f)) : near f ≤ k :=
  (Classical.choose_spec (exists_near f)).2 k h

/-- A row's minimum is the entry at that position. -/
theorem fold_min_eq (f : Fin 1024 → EReal) : (Finset.univ.fold min (⊤ : EReal) f) = f (near f) :=
  le_antisymm ((Finset.fold_min_le _).2 (Or.inr ⟨near f, Finset.mem_univ _, le_rfl⟩))
    ((Finset.le_fold_min _).2 ⟨le_top, fun k _ => near_le f k⟩)

/-- A position below 1024 as a signed word is that number. -/
theorem toInt_pos (a : Fin 1024) : (BitVec.ofNat 32 a.val).toInt = (a.val : ℤ) := by
  have ha := a.isLt
  have h : (BitVec.ofNat 32 a.val).toNat = a.val := by simp; omega
  rw [BitVec.toInt_eq_toNat_of_lt (by omega), h]

/-- Words of two positions agree only when the positions do. -/
theorem pos_inj {a b : Fin 1024} (h : BitVec.ofNat 32 a.val = BitVec.ofNat 32 b.val) : a = b := by
  have := congrArg BitVec.toInt h
  rw [toInt_pos, toInt_pos] at this
  exact Fin.ext (by exact_mod_cast this)

/-- The signed minimum of a set of words and a first word is one of them and not above any. -/
theorem fold_minsi_spec (S : Finset (Fin 1024)) (i : BitVec 32) (g : Fin 1024 → BitVec 32) :
    (S.fold IntOp.minsi i g = i ∨ ∃ k ∈ S, S.fold IntOp.minsi i g = g k)
      ∧ (S.fold IntOp.minsi i g).toInt ≤ i.toInt ∧ ∀ k ∈ S, (S.fold IntOp.minsi i g).toInt ≤ (g k).toInt := by
  induction S using Finset.cons_induction with
  | empty => simp
  | cons a S ha ih =>
    rw [Finset.fold_cons]
    obtain ⟨h1, h2, h3⟩ := ih
    generalize S.fold IntOp.minsi i g = r at h1 h2 h3
    by_cases h : (g a).toInt < r.toInt
    · have e : IntOp.minsi (g a) r = g a := by
        unfold IntOp.minsi; rw [if_pos (BitVec.slt_iff_toInt_lt.2 h)]
      rw [e]
      refine ⟨Or.inr ⟨a, Finset.mem_cons_self .., rfl⟩, by omega, fun k hk => ?_⟩
      rcases Finset.mem_cons.1 hk with rfl | hk
      · exact le_rfl
      · have := h3 k hk; omega
    · have e : IntOp.minsi (g a) r = r := by
        unfold IntOp.minsi; rw [if_neg (fun h' => h (BitVec.slt_iff_toInt_lt.1 h'))]
      rw [e]
      refine ⟨?_, h2, fun k hk => ?_⟩
      · rcases h1 with h1 | ⟨k, hk, h1⟩
        · exact Or.inl h1
        · exact Or.inr ⟨k, Finset.mem_cons_of_mem hk, h1⟩
      · rcases Finset.mem_cons.1 hk with rfl | hk
        · omega
        · exact h3 k hk

/-- The least of the positions where the entry is the row's least one, any other position counting as 1024,
    is the first position of the least entry. -/
theorem fold_minsi_eq (f : Fin 1024 → EReal) :
    (Finset.univ.fold IntOp.minsi 2147483647#32 fun k => if f k = f (near f) then BitVec.ofNat 32 k.val else 1024#32)
      = BitVec.ofNat 32 (near f).val := by
  obtain ⟨h1, h2, h3⟩ := fold_minsi_spec Finset.univ 2147483647#32
    (fun k => if f k = f (near f) then BitVec.ofNat 32 k.val else 1024#32)
  have hn := h3 (near f) (Finset.mem_univ _)
  generalize (Finset.univ : Finset (Fin 1024)).fold IntOp.minsi 2147483647#32 _ = r at h1 h2 h3 hn ⊢
  rw [if_pos rfl, toInt_pos] at hn
  have hlt := (near f).isLt
  rcases h1 with h1 | ⟨k, -, h1⟩
  · subst h1
    have : (2147483647#32 : BitVec 32).toInt = 2147483647 := by decide
    omega
  · by_cases e : f k = f (near f)
    · simp only [e, if_true] at h1
      subst h1
      rw [toInt_pos] at hn
      have := near_first f k e.le
      rw [show k = near f from Fin.ext (by have := Fin.le_def.1 this; omega)]
    · simp only [e, if_false] at h1
      subst h1
      have : (1024#32 : BitVec 32).toInt = 1024 := by decide
      omega

/-! ## The fold over (entry, position) pairs -/

/-- One pair is no worse than another: a smaller entry, or the same entry no later. -/
def Le (p q : EReal × BitVec 32) : Prop := p.1 < q.1 ∨ (p.1 = q.1 ∧ p.2.toInt ≤ q.2.toInt)

theorem Le.refl (p : EReal × BitVec 32) : Le p p := Or.inr ⟨rfl, le_rfl⟩

theorem Le.trans {p q r : EReal × BitVec 32} (h : Le p q) (h' : Le q r) : Le p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

theorem Le.antisymm {p q : EReal × BitVec 32} (h : Le p q) (h' : Le q p) : p = q := by
  rcases h with h | ⟨h, hi⟩ <;> rcases h' with h' | ⟨h', hi'⟩
  · exact absurd h' (lt_asymm h)
  · exact absurd h' h.ne'
  · exact absurd h h'.ne'
  · exact Prod.ext h (BitVec.eq_of_toInt_eq (le_antisymm hi hi'))

/-- A step that keeps the better of two pairs. -/
structure Keeps (f : EReal × BitVec 32 → EReal × BitVec 32 → EReal × BitVec 32) : Prop where
  one : ∀ p q, f p q = p ∨ f p q = q
  le_left : ∀ p q, Le (f p q) p
  le_right : ∀ p q, Le (f p q) q

/-- A fold of such steps ends at one of the pairs, no worse than any. -/
theorem Keeps.foldl_spec {f : EReal × BitVec 32 → EReal × BitVec 32 → EReal × BitVec 32} (hf : Keeps f)
    (L : List (EReal × BitVec 32)) (i : EReal × BitVec 32) :
    L.foldl f i ∈ i :: L ∧ ∀ p ∈ i :: L, Le (L.foldl f i) p := by
  induction L generalizing i with
  | nil => simp [Le.refl]
  | cons q L ih =>
    obtain ⟨h1, h2⟩ := ih (f i q)
    rw [List.foldl_cons]
    have h0 := h2 _ List.mem_cons_self
    refine ⟨?_, fun p hp => ?_⟩
    · rcases List.mem_cons.1 h1 with h1 | h1
      · rcases hf.one i q with e | e <;> rw [h1, e] <;> simp
      · simp [h1]
    · rcases List.mem_cons.1 hp with rfl | hp
      · exact h0.trans (hf.le_left _ _)
      · rcases List.mem_cons.1 hp with rfl | hp
        · exact h0.trans (hf.le_right _ _)
        · exact h2 p (List.mem_cons_of_mem _ hp)

/-- Over the pairs of a row's entries with their positions, from (+∞, 0), such a fold ends at the least
    entry with its first position. -/
theorem Keeps.foldl_eq {f : EReal × BitVec 32 → EReal × BitVec 32 → EReal × BitVec 32} (hf : Keeps f)
    (L : List (EReal × BitVec 32)) (x : Fin 1024 → EReal) (hL : ∀ p, p ∈ L ↔ ∃ k, p = (x k, BitVec.ofNat 32 k.val)) :
    L.foldl f (⊤, 0#32) = (x (near x), BitVec.ofNat 32 (near x).val) := by
  obtain ⟨h1, h2⟩ := hf.foldl_spec L (⊤, 0#32)
  have z : (0#32 : BitVec 32).toInt = 0 := by decide
  refine Le.antisymm (h2 _ (List.mem_cons_of_mem _ ((hL _).2 ⟨near x, rfl⟩))) ?_
  rcases List.mem_cons.1 h1 with h1 | h1
  · rw [h1]
    rcases lt_or_eq_of_le (le_top (a := x (near x))) with h | h
    · exact Or.inl h
    · refine Or.inr ⟨h, ?_⟩
      show (BitVec.ofNat 32 (near x).val).toInt ≤ (0#32 : BitVec 32).toInt
      rw [toInt_pos, z]
      have := near_first x 0 (by rw [h]; exact le_top)
      have := Fin.le_def.1 this
      simp only [Fin.val_zero] at this
      omega
  · obtain ⟨k, hk⟩ := (hL _).1 h1
    rw [hk]
    rcases lt_or_eq_of_le (near_le x k) with h | h
    · exact Or.inl h
    · refine Or.inr ⟨h, ?_⟩
      show (BitVec.ofNat 32 (near x).val).toInt ≤ (BitVec.ofNat 32 k.val).toInt
      rw [toInt_pos, toInt_pos]
      exact_mod_cast Fin.le_def.1 (near_first x k h.ge)

end Cert.Near

end
-- ==== Proof.Consts.lean ====
/- The float constants of the two programs, as extended reals. -/
module

public import Idealize.ShloMosaic.PureOps
public import Idealize.ShloMosaic.PureOps.Ideal.Laws

@[expose] public section

noncomputable section

namespace Cert.Consts

open Idealize.ShloMosaic

/-- The word of plus infinity is the largest value. -/
theorem inf_word : Ideal.ofBits .f32 0x7F800000#32 = ⊤ := by
  simp [Ideal.ofBits, Ideal.ieee]

/-- The word of two. -/
theorem two_word : Ideal.ofBits .f32 0x40000000#32 = ((2 : ℝ) : EReal) := by
  simp [Ideal.ofBits, Ideal.ieee, -EReal.coe_mul]; norm_num

/-- The word of the number of rows. -/
theorem rows_word : Ideal.ofBits .f32 0x46800000#32 = ((16384 : ℝ) : EReal) := by
  simp [Ideal.ofBits, Ideal.ieee, -EReal.coe_mul]; norm_num

/-- The word of that number's reciprocal. -/
theorem rows_inv_word : Ideal.ofBits .f32 0x38800000#32 = ((1 / 16384 : ℝ) : EReal) := by
  simp [Ideal.ofBits, Ideal.ieee, -EReal.coe_mul]; norm_num

/-- Dividing by the number of rows is multiplying by its reciprocal. -/
theorem div_rows (x : EReal) : Ideal.div x (Ideal.ofBits .f32 0x46800000#32) = x * Ideal.ofBits .f32 0x38800000#32 := by
  rw [rows_word, rows_inv_word, Ideal.div_coe (by norm_num)]

end Cert.Consts

end
-- ==== Proof.KBlock.lean ====
/- What one block of the kernel computes, row by row: the least distance and its first position, the one-hot
   row, the code word there, and the sums over the block's rows. -/
module

public import proofs.«01_k».proof.Proof.Near
public import proofs.«01_k».proof.Proof.Consts
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen Cert.Near Cert.Consts

variable (x : Vec Ideal S1x64x1024 .f32) (cb : Vec Ideal S1024x64 .f32) (zs : Vec Ideal S1024x1 .f32) (cs : Vec Ideal S1x1024 .f32)

/-- A row of the block's distances. -/
def krow (r : Fin 1024) : Fin 1024 → EReal := fun k => k0_pay7 (F := Ideal) x cb zs cs (ix2 r k)

/-- A distance of the block at an index. -/
theorem pay7_at (r k : Fin 1024) : k0_pay7 (F := Ideal) x cb zs cs (ix2 r k)
    = (zs (ix2 r 0) + cs (ix2 0 k)) - Ideal.ofBits .f32 0x40000000#32 * ∑ d : Fin 64, x (ix3 0 d r) * cb (ix2 k d) := by
  pointwise [k0_pay7]

/-- The block's row minimum. -/
theorem pay8_at (r : Fin 1024) : k0_pay8 (F := Ideal) x cb zs cs (ix2 r 0) = krow x cb zs cs r (near (krow x cb zs cs r)) := by
  pointwise [k0_pay8]
  rw [inf_word]
  exact fold_min_eq (krow x cb zs cs r)

/-- The position of a row's minimum. -/
theorem pay9_at (r : Fin 1024) : k0_pay9 (F := Ideal) x cb zs cs (ix1 r) = BitVec.ofNat 32 (near (krow x cb zs cs r)).val := by
  pointwise [k0_pay9]
  rw [pay8_at]
  exact fold_minsi_eq (krow x cb zs cs r)

/-- The block's positions, laid out as they are stored. -/
theorem pay10_at (r : Fin 1024) : k0_pay10 (F := Ideal) x cb zs cs (ix3 0 0 r) = BitVec.ofNat 32 (near (krow x cb zs cs r)).val := by
  pointwise [k0_pay10]
  exact pay9_at x cb zs cs r

/-- Comparing the words of two positions for equality, as a 32-bit word. -/
theorem eq_word (a b : Fin 1024) : (BitVec.setWidth 32 (IntOp.cmpi CmpIPredicate.eq (BitVec.ofNat 32 a.val) (BitVec.ofNat 32 b.val)))
    = if a = b then 1#32 else 0#32 := by
  by_cases h : a = b
  · rw [if_pos h, h]; simp [IntOp.cmpi]
  · rw [if_neg h]
    have : (BitVec.ofNat 32 a.val == BitVec.ofNat 32 b.val) = false := by
      rw [beq_eq_false_iff_ne]; exact fun e => h (pos_inj e)
    simp only [IntOp.cmpi, this]; decide

/-- The block's one-hot rows. -/
theorem pay11_at (r k : Fin 1024) : k0_pay11 (F := Ideal) x cb zs cs (ix2 r k) = if k = near (krow x cb zs cs r) then 1 else 0 := by
  pointwise [k0_pay11]
  rw [pay9_at, eq_word]
  by_cases h : k = near (krow x cb zs cs r)
  · rw [if_pos h, if_pos h]
    show (((1#32 : BitVec 32).toInt : ℝ) : EReal) = 1
    norm_num
  · rw [if_neg h, if_neg h]
    show (((0#32 : BitVec 32).toInt : ℝ) : EReal) = 0
    norm_num

/-- The code words at a block's positions, laid out as they are stored. -/
theorem pay12_at (d : Fin 64) (r : Fin 1024) : k0_pay1 (F := Ideal) (k0_pay12 x cb zs cs) (ix3 0 d r) = cb (ix2 (near (krow x cb zs cs r)) d) := by
  pointwise [k0_pay1, k0_pay12]
  simp only [pay11_at, mul_ite, mul_one, mul_zero]
  rw [Finset.sum_ite_eq' Finset.univ]
  simp

/-- The running error after a block: its rows' minima are added. -/
theorem pay3_at (v : FVec Ideal S1024x1 .f32) (e : EReal) : k0_pay3 (F := Ideal) v e = e + ∑ r : Fin 1024, v (ix2 r 0) := by
  pointwise [k0_pay3]
  simp

/-- The running counts after a block: its rows' one-hot rows are added. -/
theorem pay4_at (v : FVec Ideal S1024x1024 .f32) (w : Vec Ideal S1x1024 .f32) (k : Fin 1024) : k0_pay4 (F := Ideal) v w (ix2 0 k) = w (ix2 0 k) + ∑ r : Fin 1024, v (ix2 r k) := by
  pointwise [k0_pay4]

/-- The perplexity from the counts. -/
theorem pay5_eq (w : Vec Ideal S1x1024 .f32) : k0_pay5 (F := Ideal) w
    = Ideal.exp (0 - ∑ k : Fin 1024, w (ix2 0 k) * Ideal.ofBits .f32 0x38800000#32 *
        Ideal.log (w (ix2 0 k) * Ideal.ofBits .f32 0x38800000#32 + Ideal.ofBits .f32 0x2EDBE6FF#32)) := by
  pointwise [k0_pay5]
  rw [Fin.sum_univ_one]
  rfl

/-- The loss from the error. -/
theorem pay6_eq (e : EReal) : k0_pay6 (F := Ideal) e = Ideal.ofBits .f32 0x3E800000#32 * Ideal.div e (Ideal.ofBits .f32 0x49800000#32)
    + Ideal.div e (Ideal.ofBits .f32 0x49800000#32) := by
  pointwise [k0_pay6]

/-- The counts start at zero. -/
theorem pay2_at (k : Fin 1024) : k0_pay2 (F := Ideal) (ix2 0 k) = 0 := by
  pointwise [k0_pay2]

end Cert.KernelIdeal.Hand

end
-- ==== Proof.RBlock.lean ====
/- The reference's results read at an index: the distances, the first position of a row's least distance, the
   one-hot rows, the code words taken, the perplexity, the loss. -/
module

public import proofs.«01_k».proof.Proof.Near
public import proofs.«01_k».proof.Proof.Consts
public import proofs.«01_k».proof.Proof.Ref
public import Idealize.ShloMosaic.Lib.Pointwise
public import Idealize.ShloMosaic.Lib.Routing.Ops

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Near Cert.Consts

variable (z : FVec Ideal S16x64x32x32 .f32) (cb : FVec Ideal S1024x64 .f32)

/-- A row of the flattened input at a channel. -/
theorem rows_at (n : Fin 16384) (d : Fin 64) : rows z (ix2 n d)
    = z (ix4 (⟨n.val / 1024, by omega⟩ : Fin 16) d (⟨n.val / 32 % 32, by omega⟩ : Fin 32) (⟨n.val % 32, by omega⟩ : Fin 32)) := by
  pointwise [rows]

/-- A distance. -/
theorem dist_at (n : Fin 16384) (k : Fin 1024) : dist z cb (ix2 n k)
    = ∑ d : Fin 64, rows z (ix2 n d) * rows z (ix2 n d) + ∑ d : Fin 64, cb (ix2 k d) * cb (ix2 k d) -
      Ideal.ofBits .f32 0x40000000#32 * ∑ d : Fin 64, rows z (ix2 n d) * cb (ix2 k d) := by
  pointwise [dist, rowSq, codeSq]

/-- A row of an array of distances. -/
def drow (d : FVec Ideal S16384x1024 .f32) (n : Fin 16384) : Fin 1024 → EReal := fun k => d (ix2 n k)

/-- One step of the reference's search, by the order of the entries and of the positions. -/
theorem step_eq (p q : EReal × BitVec 32) : reducer_argmin_f32_i32 (F := Ideal) p q
    = if p.1 < q.1 then p else if p.1 = q.1 then (if p.2.toInt < q.2.toInt then p else q) else q := by
  obtain ⟨a, i⟩ := p
  obtain ⟨b, j⟩ := q
  have hs : IntOp.cmpi .slt i j = BitVec.ofBool (decide (i.toInt < j.toInt)) := by
    show BitVec.ofBool (i.slt j) = _
    exact congrArg BitVec.ofBool (Bool.eq_iff_iff.2 (by rw [BitVec.slt_iff_toInt_lt, decide_eq_true_eq]))
  unfold reducer_argmin_f32_i32
  simp only [Ideal.cmpf_def, Ideal.cmp, hs, ne_eq, not_true_eq_false, decide_false]
  by_cases h1 : a < b
  · have h2 : a ≠ b := h1.ne
    simp [h1, h2, Scalar.select, IntOp.ori, IntOp.andi]
  · by_cases h2 : a = b
    · subst h2
      by_cases h3 : i.toInt < j.toInt
      · simp [h3, Scalar.select, IntOp.ori, IntOp.andi]
      · simp [h3, Scalar.select, IntOp.ori, IntOp.andi]
    · simp [h1, h2, Scalar.select, IntOp.ori, IntOp.andi]

/-- One step of the reference's search keeps the better of two pairs. -/
theorem keeps : Keeps (reducer_argmin_f32_i32 (F := Ideal)) where
  one p q := by
    rw [step_eq]; split_ifs <;> simp
  le_left p q := by
    rw [step_eq]
    split_ifs with h1 h2 h3
    · exact Le.refl _
    · exact Le.refl _
    · exact Or.inr ⟨h2.symm, not_lt.1 h3⟩
    · exact Or.inl (lt_of_le_of_ne (not_lt.1 h1) (Ne.symm h2))
  le_right p q := by
    rw [step_eq]
    split_ifs with h1 h2 h3
    · exact Or.inl h1
    · exact Or.inr ⟨h2, h3.le⟩
    · exact Le.refl _
    · exact Le.refl _

/-- The pairs a two-operand reduction runs over at an index are those at the operand indices that drop to it. -/
theorem mem_fiber_iff {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨i, hi, rfl⟩
    exact ⟨_, hi, rfl⟩
  · rintro ⟨i, hi, rfl⟩
    exact ⟨s.rowMajor i, by rw [Equiv.symm_apply_apply]; exact hi, by rw [Equiv.symm_apply_apply]⟩

/-- An index drops to its row. -/
theorem drop_row (n : Fin 16384) (k : Fin 1024) : reducesTo_S16384x1024_S16384_d1.drop (ix2 n k) = ix1 n := by
  funext b
  refine Fin.ext ?_
  match b with
  | ⟨0, _⟩ => exact Shape.ReducesTo.drop_apply_val_of_eq reducesTo_S16384x1024_S16384_d1 (ix2 n k) 0 0 (by decide)

/-- A position's word. -/
theorem iota_at (n : Fin 16384) (k : Fin 1024) : iotaInDim S16384x1024 32 1 (ix2 n k) = BitVec.ofNat 32 k.val := by
  pointwise []

/-- A row index, from its only coordinate. -/
theorem ix1_eq {a b : Fin 16384} (h : (ix1 a : S16384.Idx) = ix1 b) : a = b := congrFun h 0

/-- The pairs the search runs over at a row: the row's entries with their positions. -/
theorem mem_fiber (d : FVec Ideal S16384x1024 .f32) (n : Fin 16384) (p : Ideal .f32 × BitVec 32) :
    p ∈ Host.argReduceFiber d (iotaInDim S16384x1024 32 1) reducesTo_S16384x1024_S16384_d1 (ix1 n)
      ↔ ∃ k : Fin 1024, p = (d (ix2 n k), BitVec.ofNat 32 k.val) := by
  rw [mem_fiber_iff]
  constructor
  · rintro ⟨j, hj, hp⟩
    obtain ⟨a, b, rfl⟩ : ∃ (a : Fin 16384) (b : Fin 1024), j = ix2 a b := ⟨j 0, j 1, eq_ix2 j⟩
    rw [drop_row] at hj
    refine ⟨b, ?_⟩
    rw [hp, ← ix1_eq hj, iota_at]
  · rintro ⟨k, hp⟩
    refine ⟨ix2 n k, drop_row n k, ?_⟩
    rw [hp, iota_at]

/-- A search that keeps the better of two pairs, from (+∞, 0), over pairs that are a row's entries with their
    positions, ends at the least entry and its first position. -/
theorem search_eq {s t u : Shape} {axes : List (Fin s.rank)} (f : Ideal .f32 × BitVec 32 → Ideal .f32 × BitVec 32 → Ideal .f32 × BitVec 32)
    (hf : Keeps f) (d : FVec Ideal s .f32) (y : s.Idx → BitVec 32) (a : u.Idx → Ideal .f32) (b : u.Idx → BitVec 32)
    (h : s.ReducesTo axes t) (hu : 0 < u.numel) (j : t.Idx) (x : Fin 1024 → EReal) (e0 : a (Shape.Idx.first hu) = (⊤ : EReal))
    (e1 : b (Shape.Idx.first hu) = 0#32)
    (hL : ∀ p : Ideal .f32 × BitVec 32, p ∈ Host.argReduceFiber d y h j ↔ ∃ k : Fin 1024, p = (x k, BitVec.ofNat 32 k.val))
    (A : t.Idx → BitVec 32) (hA : A = fun j => (Host.argReduce f d y a b h hu j).2) :
    A j = BitVec.ofNat 32 (near x).val := by
  rw [hA]
  show (Host.argReduce f d y a b h hu j).2 = _
  rw [Ideal.argReduce_eq_reduce2, Host.reduce2_eq_foldl_fiber, e0, e1, hf.foldl_eq _ x hL]

/-- The reference's indices are the second results of its search. -/
theorem argm_eq (d : FVec Ideal S16384x1024 .f32) : argm d = fun j => (Host.argReduce reducer_argmin_f32_i32 d
    (iotaInDim S16384x1024 32 1) (constant S_ .f32 0x7F800000#32) (constantI S_ 32 0#32) reducesTo_S16384x1024_S16384_d1 h_S_ j).2 := by
  delta argm
  rfl

/-- The reference's index of a row: the first position of its least distance. -/
theorem argm_at (d : FVec Ideal S16384x1024 .f32) (n : Fin 16384) : argm d (ix1 n) = BitVec.ofNat 32 (near (drow d n)).val :=
  search_eq _ keeps d _ _ _ _ _ _ (drow d n) inf_word rfl (mem_fiber d n) (argm d) (argm_eq d)

/-- A one-hot row at a position. -/
theorem onehot_at (i : IVec S16384 32) (n : Fin 16384) (a k : Fin 1024) (h : i (ix1 n) = BitVec.ofNat 32 a.val) :
    onehot (F := Ideal) i (ix2 n k) = if k = a then 1 else 0 := by
  pointwise [onehot]
  rw [h]
  by_cases e : k = a
  · rw [if_pos e, e]
    show (((IntOp.cmpi .eq (BitVec.ofNat 32 a.val) (BitVec.ofNat 32 a.val)).toNat : ℝ) : EReal) = 1
    simp [IntOp.cmpi]
  · rw [if_neg e]
    have : (BitVec.ofNat 32 a.val == BitVec.ofNat 32 k.val) = false := by
      rw [beq_eq_false_iff_ne]; exact fun e' => e (pos_inj e').symm
    show (((IntOp.cmpi .eq (BitVec.ofNat 32 a.val) (BitVec.ofNat 32 k.val)).toNat : ℝ) : EReal) = 0
    simp [IntOp.cmpi, this]

/-- The perplexity from the one-hot rows. -/
theorem perp_eq (e : FVec Ideal S16384x1024 .f32) (j : S_.Idx) : perp e j
    = Ideal.exp (-∑ k : Fin 1024, Ideal.div (∑ n : Fin 16384, e (ix2 n k)) (Ideal.ofBits .f32 0x46800000#32) *
        Ideal.log (Ideal.div (∑ n : Fin 16384, e (ix2 n k)) (Ideal.ofBits .f32 0x46800000#32) + Ideal.ofBits .f32 0x2EDBE6FF#32)) := by
  pointwise [perp]

/-- A position is not negative, at least zero and at most 1023. -/
theorem pos_words : ∀ a : Fin 1024, IntOp.cmpi .slt (BitVec.ofNat 32 a.val) 0#32 = 0#1
    ∧ IntOp.cmpi .sge (BitVec.ofNat 32 a.val) 0#32 = 1#1 ∧ IntOp.cmpi .sle (BitVec.ofNat 32 a.val) 1023#32 = 1#1 := by
  decide +kernel

/-- A position is left as it is. -/
theorem wrap_at (i : IVec S16384 32) (n : Fin 16384) (a : Fin 1024) (h : i (ix1 n) = BitVec.ofNat 32 a.val) :
    wrap i (ix2 n 0) = BitVec.ofNat 32 a.val := by
  pointwise [wrap]
  rw [h, (pos_words a).1]
  rfl

/-- A position names a code word. -/
theorem inRange_at (i : IVec S16384 32) (n : Fin 16384) (a : Fin 1024) (h : i (ix1 n) = BitVec.ofNat 32 a.val) :
    inRange i (ix1 n) = 1#1 := by
  pointwise [inRange]
  rw [Finset.univ_unique, Finset.fold_singleton]
  show IntOp.andi (IntOp.andi (IntOp.cmpi .sge (wrap i (ix2 n 0)) 0#32) (IntOp.cmpi .sle (wrap i (ix2 n 0)) 1023#32)) 1#1 = 1#1
  rw [wrap_at i n a h, (pos_words a).2.1, (pos_words a).2.2]
  rfl

/-- The code word taken at a row. -/
theorem taken_at (i : IVec S16384 32) (n : Fin 16384) (d : Fin 64) (a : Fin 1024) (h : i (ix1 n) = BitVec.ofNat 32 a.val) :
    taken cb i (ix2 n d) = cb (ix2 a d) := by
  pointwise [taken]
  rw [inRange_at i n a h]
  exact Routing.gather_row gather_S1024x64_S16384x1_S16384x64_1_0_n_n_0_1_164 rfl rfl rfl rfl rfl cb (wrap i) n d a (wrap_at i n a h) (by norm_num)

/-- Rows laid out as the input is. -/
theorem unrows_at (q : FVec Ideal S16384x64 .f32) (b : Fin 16) (d : Fin 64) (h w : Fin 32) : unrows q (ix4 b d h w)
    = q (ix2 (⟨b.val * 1024 + h.val * 32 + w.val, by omega⟩ : Fin 16384) d) := by
  pointwise [unrows]

/-- The mean squared difference: the sum over all entries, divided by their number. -/
theorem mse_eq (q : FVec Ideal S16x64x32x32 .f32) (j : S_.Idx) : mse q z j
    = Ideal.div (∑ b : Fin 16, ∑ d : Fin 64, ∑ h : Fin 32, ∑ w : Fin 32,
        (q (ix4 b d h w) - z (ix4 b d h w)) * (q (ix4 b d h w) - z (ix4 b d h w))) (Ideal.ofBits .f32 0x49800000#32) := by
  pointwise [mse]
  rw [Ideal.hostReduceAdd_total _ (fun b => b.elim0), zero_add, sum_idx4]
  rfl

/-- The loss from the mean squared difference. -/
theorem loss_eq (q : FVec Ideal S16x64x32x32 .f32) (j : S_.Idx) : loss q z j
    = Ideal.ofBits .f32 0x3E800000#32 * mse q z j + mse q z j := by
  pointwise [loss]

/-- The straight-through output at an index. -/
theorem through_eq (q : FVec Ideal S16x64x32x32 .f32) (j : S16x64x32x32.Idx) : through q z j = z j + (q j - z j) := by
  pointwise [through]

end Cert.ReferenceIdeal.Hand

end
-- ==== Proof.BlockOut.lean ====
/- What one run of the kernel's body leaves in its output blocks and its carried scratch, as the named pure
   values of the blocks it reads — at the first point, at a point between, at the last point. -/
module

public import proofs.«01_k».proof.Proof.Gen.KernelIdeal.Frame
public import Idealize.ShloMosaic.Lib.Pipeline.Value
public import Idealize.ShloMosaic.Lib.Tactic
public import Idealize.ShloMosaic.Lib.ValueIdx

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- Two zero offsets, as the constant function. -/
theorem hz2 : (![0, 0] : Fin 2 → Nat) = fun _ => 0 := funext fun a => by fin_cases a <;> rfl

/-- A one-by-one array has an element. -/
theorem pos11 : 0 < S1x1.numel := by decide

/-- A one-by-one array has one element. -/
theorem one_elem (a b : S1x1.Idx) : a = b := by
  funext d
  match d with
  | ⟨0, _⟩ => exact Subsingleton.elim (α := Fin 1) _ _
  | ⟨1, _⟩ => exact Subsingleton.elim (α := Fin 1) _ _

/-- Three zero offsets, as the constant function. -/
theorem hz3 : (![0, 0, 0] : Fin 3 → Nat) = fun _ => 0 := funext fun a => by fin_cases a <;> rfl

/-- At the first point the body leaves the block of distances. -/
theorem out0_A_4_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : cond0_0 i) (hc1 : ¬cond0_1 i)
    (x0 : Vec F S1x64x1024 .f32) (x1 : Vec F S1024x1 .f32) (x2 : Vec F S1024x64 .f32) (x3 : Vec F S1x1024 .f32) :
    out0_A_4 c i a1 h1 a2 h2 a3 h3 a4 h4 a5 h5 a6 h6 a7 h7 a8 h8 a9 h9 a10 h10 a11 h11 a12 h12 hc0 hc1 x0 x1 x2 x3 = k0_pay7 x0 x2 x1 x3 := by
  unfold out0_A_4
  rw [View.read_writes_eq_canon _ _ _ (cover0_A_4 c i a1 h1 a2 h2 a3 h3 a4 h4 a5 h5 a6 h6 a7 h7 a8 h8 a9 h9 a10 h10 a11 h11 a12 h12 hc0 hc1 x0 x1 x2 x3)]
  unfold kernelRun0_A
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the first point the body leaves the block of one-hot rows. -/
theorem out0_A_5_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : cond0_0 i) (hc1 : ¬cond0_1 i)
    (x0 : Vec F S1x64x1024 .f32) (x1 : Vec F S1024x1 .f32) (x2 : Vec F S1024x64 .f32) (x3 : Vec F S1x1024 .f32) :
    out0_A_5 c i a1 h1 a2 h2 a3 h3 a4 h4 a5 h5 a6 h6 a7 h7 a8 h8 a9 h9 a10 h10 a11 h11 a12 h12 hc0 hc1 x0 x1 x2 x3 = k0_pay11 x0 x2 x1 x3 := by
  unfold out0_A_5
  rw [View.read_writes_eq_canon _ _ _ (cover0_A_5 c i a1 h1 a2 h2 a3 h3 a4 h4 a5 h5 a6 h6 a7 h7 a8 h8 a9 h9 a10 h10 a11 h11 a12 h12 hc0 hc1 x0 x1 x2 x3)]
  unfold kernelRun0_A
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the first point the body leaves the block of indices. -/
theorem out0_A_6_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : cond0_0 i) (hc1 : ¬cond0_1 i)
    (x0 : Vec F S1x64x1024 .f32) (x1 : Vec F S1024x1 .f32) (x2 : Vec F S1024x64 .f32) (x3 : Vec F S1x1024 .f32) :
    out0_A_6 c i a1 h1 a2 h2 a3 h3 a4 h4 a5 h5 a6 h6 a7 h7 a8 h8 a9 h9 a10 h10 a11 h11 a12 h12 hc0 hc1 x0 x1 x2 x3 = k0_pay10 x0 x2 x1 x3 := by
  unfold out0_A_6
  rw [View.read_writes_eq_canon _ _ _ (cover0_A_6 c i a1 h1 a2 h2 a3 h3 a4 h4 a5 h5 a6 h6 a7 h7 a8 h8 a9 h9 a10 h10 a11 h11 a12 h12 hc0 hc1 x0 x1 x2 x3)]
  unfold kernelRun0_A
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the first point the body leaves the block of quantized values. -/
theorem out0_A_7_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : cond0_0 i) (hc1 : ¬cond0_1 i)
    (x0 : Vec F S1x64x1024 .f32) (x1 : Vec F S1024x1 .f32) (x2 : Vec F S1024x64 .f32) (x3 : Vec F S1x1024 .f32) :
    out0_A_7 c i a1 h1 a2 h2 a3 h3 a4 h4 a5 h5 a6 h6 a7 h7 a8 h8 a9 h9 a10 h10 a11 h11 a12 h12 hc0 hc1 x0 x1 x2 x3 = k0_pay1 (k0_pay12 x0 x2 x1 x3) := by
  unfold out0_A_7
  rw [View.read_writes_eq_canon _ _ _ (cover0_A_7 c i a1 h1 a2 h2 a3 h3 a4 h4 a5 h5 a6 h6 a7 h7 a8 h8 a9 h9 a10 h10 a11 h11 a12 h12 hc0 hc1 x0 x1 x2 x3)]
  unfold kernelRun0_A
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the first point the body leaves the counts, with this block's added. -/
theorem sout0_A_0_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : cond0_0 i) (hc1 : ¬cond0_1 i)
    (x0 : Vec F S1x64x1024 .f32) (x1 : Vec F S1024x1 .f32) (x2 : Vec F S1024x64 .f32) (x3 : Vec F S1x1024 .f32) :
    sout0_A_0 c i a1 h1 a2 h2 a3 h3 a4 h4 a5 h5 a6 h6 a7 h7 a8 h8 a9 h9 a10 h10 a11 h11 a12 h12 hc0 hc1 x0 x1 x2 x3 = k0_pay4 (k0_pay11 x0 x2 x1 x3) (k0_pay2 (F := F)) := by
  unfold sout0_A_0
  rw [View.read_writes_eq_canon _ _ _ (scover0_A_0 c i a1 h1 a2 h2 a3 h3 a4 h4 a5 h5 a6 h6 a7 h7 a8 h8 a9 h9 a10 h10 a11 h11 a12 h12 hc0 hc1 x0 x1 x2 x3)]
  unfold kernelRun0_A
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the first point the body leaves the error, with this block's added. -/
theorem sout0_A_1_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : cond0_0 i) (hc1 : ¬cond0_1 i)
    (x0 : Vec F S1x64x1024 .f32) (x1 : Vec F S1024x1 .f32) (x2 : Vec F S1024x64 .f32) (x3 : Vec F S1x1024 .f32) :
    sout0_A_1 c i a1 h1 a2 h2 a3 h3 a4 h4 a5 h5 a6 h6 a7 h7 a8 h8 a9 h9 a10 h10 a11 h11 a12 h12 hc0 hc1 x0 x1 x2 x3 = fun _ => k0_pay3 (k0_pay8 x0 x2 x1 x3) (Scalar.ofBits .f32 0x00000000#32) := by
  unfold sout0_A_1
  rw [View.read_writes_eq_canon _ _ _ (scover0_A_1 c i a1 h1 a2 h2 a3 h3 a4 h4 a5 h5 a6 h6 a7 h7 a8 h8 a9 h9 a10 h10 a11 h11 a12 h12 hc0 hc1 x0 x1 x2 x3)]
  unfold kernelRun0_A
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At a point between the first and the last the body leaves the block of distances. -/
theorem out0_B_4_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : ¬cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_B_4 c i a1 h1 a2 h2 a3 h3 a4 h4 a5 h5 a6 h6 a7 h7 a8 h8 a9 h9 a10 h10 a11 h11 a12 h12 hc0 hc1 x0 x1 x2 x3 xs0 xs1 = k0_pay7 x0 x2 x1 x3 := by
  unfold out0_B_4
  rw [View.read_writes_eq_canon _ _ _ (cover0_B_4 c i a1 h1 a2 h2 a3 h3 a4 h4 a5 h5 a6 h6 a7 h7 a8 h8 a9 h9 a10 h10 a11 h11 a12 h12 hc0 hc1 x0 x1 x2 x3 xs0 xs1)]
  unfold kernelRun0_B
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At a point between the first and the last the body leaves the block of one-hot rows. -/
theorem out0_B_5_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : ¬cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_B_5 c i a1 h1 a2 h2 a3 h3 a4 h4 a5 h5 a6 h6 a7 h7 a8 h8 a9 h9 a10 h10 a11 h11 a12 h12 hc0 hc1 x0 x1 x2 x3 xs0 xs1 = k0_pay11 x0 x2 x1 x3 := by
  unfold out0_B_5
  rw [View.read_writes_eq_canon _ _ _ (cover0_B_5 c i a1 h1 a2 h2 a3 h3 a4 h4 a5 h5 a6 h6 a7 h7 a8 h8 a9 h9 a10 h10 a11 h11 a12 h12 hc0 hc1 x0 x1 x2 x3 xs0 xs1)]
  unfold kernelRun0_B
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At a point between the first and the last the body leaves the block of indices. -/
theorem out0_B_6_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : ¬cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_B_6 c i a1 h1 a2 h2 a3 h3 a4 h4 a5 h5 a6 h6 a7 h7 a8 h8 a9 h9 a10 h10 a11 h11 a12 h12 hc0 hc1 x0 x1 x2 x3 xs0 xs1 = k0_pay10 x0 x2 x1 x3 := by
  unfold out0_B_6
  rw [View.read_writes_eq_canon _ _ _ (cover0_B_6 c i a1 h1 a2 h2 a3 h3 a4 h4 a5 h5 a6 h6 a7 h7 a8 h8 a9 h9 a10 h10 a11 h11 a12 h12 hc0 hc1 x0 x1 x2 x3 xs0 xs1)]
  unfold kernelRun0_B
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At a point between the first and the last the body leaves the block of quantized values. -/
theorem out0_B_7_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : ¬cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_B_7 c i a1 h1 a2 h2 a3 h3 a4 h4 a5 h5 a6 h6 a7 h7 a8 h8 a9 h9 a10 h10 a11 h11 a12 h12 hc0 hc1 x0 x1 x2 x3 xs0 xs1 = k0_pay1 (k0_pay12 x0 x2 x1 x3) := by
  unfold out0_B_7
  rw [View.read_writes_eq_canon _ _ _ (cover0_B_7 c i a1 h1 a2 h2 a3 h3 a4 h4 a5 h5 a6 h6 a7 h7 a8 h8 a9 h9 a10 h10 a11 h11 a12 h12 hc0 hc1 x0 x1 x2 x3 xs0 xs1)]
  unfold kernelRun0_B
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At a point between the first and the last the body leaves the counts, with this block's added. -/
theorem sout0_B_0_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : ¬cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    sout0_B_0 c i a1 h1 a2 h2 a3 h3 a4 h4 a5 h5 a6 h6 a7 h7 a8 h8 a9 h9 a10 h10 a11 h11 a12 h12 hc0 hc1 x0 x1 x2 x3 xs0 xs1 = k0_pay4 (k0_pay11 x0 x2 x1 x3) xs0 := by
  unfold sout0_B_0
  rw [View.read_writes_eq_canon _ _ _ (scover0_B_0 c i a1 h1 a2 h2 a3 h3 a4 h4 a5 h5 a6 h6 a7 h7 a8 h8 a9 h9 a10 h10 a11 h11 a12 h12 hc0 hc1 x0 x1 x2 x3 xs0 xs1)]
  unfold kernelRun0_B
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At a point between the first and the last the body leaves the error, with this block's added. -/
theorem sout0_B_1_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : ¬cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    sout0_B_1 c i a1 h1 a2 h2 a3 h3 a4 h4 a5 h5 a6 h6 a7 h7 a8 h8 a9 h9 a10 h10 a11 h11 a12 h12 hc0 hc1 x0 x1 x2 x3 xs0 xs1 = fun _ => k0_pay3 (k0_pay8 x0 x2 x1 x3) (xs1 (Shape.Idx.first pos11)) := by
  unfold sout0_B_1
  rw [View.read_writes_eq_canon _ _ _ (scover0_B_1 c i a1 h1 a2 h2 a3 h3 a4 h4 a5 h5 a6 h6 a7 h7 a8 h8 a9 h9 a10 h10 a11 h11 a12 h12 hc0 hc1 x0 x1 x2 x3 xs0 xs1)]
  unfold kernelRun0_B
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the block of distances. -/
theorem out0_C_4_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_C_4 c i a1 h1 a2 h2 a3 h3 a4 h4 a5 h5 a6 h6 a7 h7 a8 h8 a9 h9 a10 h10 a11 h11 a12 h12 hc0 hc1 x0 x1 x2 x3 xs0 xs1 = k0_pay7 x0 x2 x1 x3 := by
  unfold out0_C_4
  rw [View.read_writes_eq_canon _ _ _ (cover0_C_4 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the block of one-hot rows. -/
theorem out0_C_5_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_C_5 c i a1 h1 a2 h2 a3 h3 a4 h4 a5 h5 a6 h6 a7 h7 a8 h8 a9 h9 a10 h10 a11 h11 a12 h12 hc0 hc1 x0 x1 x2 x3 xs0 xs1 = k0_pay11 x0 x2 x1 x3 := by
  unfold out0_C_5
  rw [View.read_writes_eq_canon _ _ _ (cover0_C_5 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the block of indices. -/
theorem out0_C_6_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_C_6 c i a1 h1 a2 h2 a3 h3 a4 h4 a5 h5 a6 h6 a7 h7 a8 h8 a9 h9 a10 h10 a11 h11 a12 h12 hc0 hc1 x0 x1 x2 x3 xs0 xs1 = k0_pay10 x0 x2 x1 x3 := by
  unfold out0_C_6
  rw [View.read_writes_eq_canon _ _ _ (cover0_C_6 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the block of quantized values. -/
theorem out0_C_7_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_C_7 c i a1 h1 a2 h2 a3 h3 a4 h4 a5 h5 a6 h6 a7 h7 a8 h8 a9 h9 a10 h10 a11 h11 a12 h12 hc0 hc1 x0 x1 x2 x3 xs0 xs1 = k0_pay1 (k0_pay12 x0 x2 x1 x3) := by
  unfold out0_C_7
  rw [View.read_writes_eq_canon _ _ _ (cover0_C_7 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the counts, with this block's added. -/
theorem sout0_C_0_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    sout0_C_0 c i a1 h1 a2 h2 a3 h3 a4 h4 a5 h5 a6 h6 a7 h7 a8 h8 a9 h9 a10 h10 a11 h11 a12 h12 hc0 hc1 x0 x1 x2 x3 xs0 xs1 = k0_pay4 (k0_pay11 x0 x2 x1 x3) xs0 := by
  unfold sout0_C_0
  rw [View.read_writes_eq_canon _ _ _ (scover0_C_0 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the error, with this block's added. -/
theorem sout0_C_1_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    sout0_C_1 c i a1 h1 a2 h2 a3 h3 a4 h4 a5 h5 a6 h6 a7 h7 a8 h8 a9 h9 a10 h10 a11 h11 a12 h12 hc0 hc1 x0 x1 x2 x3 xs0 xs1 = fun _ => k0_pay3 (k0_pay8 x0 x2 x1 x3) (xs1 (Shape.Idx.first pos11)) := by
  unfold sout0_C_1
  rw [View.read_writes_eq_canon _ _ _ (scover0_C_1 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the loss. -/
theorem out0_C_8_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_C_8 c i a1 h1 a2 h2 a3 h3 a4 h4 a5 h5 a6 h6 a7 h7 a8 h8 a9 h9 a10 h10 a11 h11 a12 h12 hc0 hc1 x0 x1 x2 x3 xs0 xs1 = fun _ => k0_pay6 (k0_pay3 (k0_pay8 x0 x2 x1 x3) (xs1 (Shape.Idx.first pos11))) := by
  unfold out0_C_8
  rw [View.read_writes_eq_canon _ _ _ (cover0_C_8 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

/-- At the last point the body leaves the perplexity. -/
theorem out0_C_9_eq (c : Dev nD) (i : grid0.Coords) (a1 : Memref sig .tc .vmem S1x64x1024 .f32) (h1 : a1.IsWhole) (a2 : Memref sig .tc .vmem S1024x1 .f32) (h2 : a2.IsWhole) (a3 : Memref sig .tc .vmem S1024x64 .f32) (h3 : a3.IsWhole) (a4 : Memref sig .tc .vmem S1x1024 .f32) (h4 : a4.IsWhole) (a5 : Memref sig .tc .vmem S1024x1024 .f32) (h5 : a5.IsWhole) (a6 : Memref sig .tc .vmem S1024x1024 .f32) (h6 : a6.IsWhole) (a7 : Memref sig .tc .vmem S1x1x1024 .i32) (h7 : a7.IsWhole) (a8 : Memref sig .tc .vmem S1x64x1024 .f32) (h8 : a8.IsWhole) (a9 : Memref sig .tc .smem S1x1 .f32) (h9 : a9.IsWhole) (a10 : Memref sig .tc .smem S1x1 .f32) (h10 : a10.IsWhole) (a11 : Memref sig .tc .vmem S1x1024 .f32) (h11 : a11.IsWhole) (a12 : Memref sig .tc .smem S1x1 .f32) (h12 : a12.IsWhole) (hc0 : ¬cond0_0 i) (hc1 : cond0_1 i)
    (x0 : Vec F S1x64x1024 .f32) (x1 : Vec F S1024x1 .f32) (x2 : Vec F S1024x64 .f32) (x3 : Vec F S1x1024 .f32) (xs0 : Vec F S1x1024 .f32) (xs1 : Vec F S1x1 .f32) :
    out0_C_9 c i a1 h1 a2 h2 a3 h3 a4 h4 a5 h5 a6 h6 a7 h7 a8 h8 a9 h9 a10 h10 a11 h11 a12 h12 hc0 hc1 x0 x1 x2 x3 xs0 xs1 = fun _ => k0_pay5 (k0_pay4 (k0_pay11 x0 x2 x1 x3) xs0) := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1 x0 x1 x2 x3 xs0 xs1)]
  unfold kernelRun0_C
  dsimp only
  sl_unfold_words
  first | rw [View.canon_unit_zero hz2] | rw [View.canon_unit_zero hz3] | rw [View.canon_cons_unit_zero hz2]
  simp only [View.readCov_unit_zero (S := S1x1024) _ hz2, View.readCov_unit_zero (S := S1x1) _ hz2, View.readAt_eq_ld, h1.read_unread, h2.read_unread, h3.read_unread, h4.read_unread, h11.read_unread, h12.read_unread,
    View.ld_unit_zero (S := S1x64x1024) hz3, View.ld_unit_zero (S := S1024x1) hz2, View.ld_unit_zero (S := S1024x64) hz2, View.ld_unit_zero (S := S1x1024) hz2, View.ld_unit_zero (S := S1x1) hz2]
  first
    | done
    | rfl
    | exact funext fun _ => congrArg (k0_pay3 (k0_pay8 x0 x2 x1 x3)) (congrArg xs1 (one_elem _ _))
    | exact funext fun _ => congrArg (fun e => k0_pay6 (k0_pay3 (k0_pay8 x0 x2 x1 x3) e)) (congrArg xs1 (one_elem _ _))

end Cert.KernelIdeal.Hand

end
-- ==== Proof.KEntry.lean ====
/- The blocks a run of the kernel's body reads, as entries of the two arguments, and the distances they give. -/
module

public import proofs.«01_k».proof.Proof.KBlock
public import proofs.«01_k».proof.Proof.RBlock
public import proofs.«01_k».proof.Proof.BlockOut
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Near

variable (m : (ℓ : Loc nD τ sig) → Buf (Elt Ideal) ℓ)

/-- The input argument. -/
abbrev argZ (c : Dev nD) : FVec Ideal S16x64x32x32 .f32 := m ((c : Thread nD τ).loc main_arg0)

/-- The code book argument. -/
abbrev argC (c : Dev nD) : FVec Ideal S1024x64 .f32 := m ((c : Thread nD τ).loc main_arg1)

/-- The windows' block indices. -/
theorem idx : ∀ t : Fin cfg0.N, win0_0.index t = ![t.val, 0, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0, 0]
    ∧ win0_7.index t = ![t.val, 0, 0] ∧ win0_8.index t = ![0, 0] ∧ win0_9.index t = ![0, 0] ∧ t.val < 16 :=
  (by decide +kernel : ∀ t : Fin grid0.N, _)

/-- A grid point is below 16. -/
theorem lt16 (t : Fin cfg0.N) : t.val < 16 := (idx t).2.2.2.2.2.2.2.2.2.2

/-- The row of the flattened input that a block's row is. -/
def row (t : Fin cfg0.N) (r : Fin 1024) : Fin 16384 := ⟨t.val * 1024 + r.val, by have := lt16 t; omega⟩

/-- The input with its two spatial axes as one. -/
def kIn (z : FVec Ideal S16x64x32x32 .f32) : FVec Ideal S16x64x1024 .f32 := shapeCast _ z shapeCasts_S16x64x32x32_S16x64x1024

/-- The squared norms of the flattened input's rows. -/
def kRowSq (z : FVec Ideal S16x64x32x32 .f32) : FVec Ideal S16384x1 .f32 :=
  let y : FVec Ideal S16384x64 .f32 := shapeCast _ (transpose S16x32x32x64 [0, 2, 3, 1] z transposes_S16x64x32x32_S16x32x32x64_0_2_3_1) shapeCasts_S16x32x32x64_S16384x64
  broadcastInDim S16384x1 ![0] bcast_S16384_S16384x1_0 (Host.reduceAdd (mulf y y) (constant S_ .f32 0x00000000#32) reducesTo_S16384x64_S16384_d1 h_S_)

/-- The squared norms of the code words. -/
def kCodeSq (cb : FVec Ideal S1024x64 .f32) : FVec Ideal S1x1024 .f32 :=
  broadcastInDim S1x1024 ![1] bcast_S1024_S1x1024_1 (Host.reduceAdd (mulf cb cb) (constant S_ .f32 0x00000000#32) reducesTo_S1024x64_S1024_d1 h_S_)

/-- What the first operand of the grid holds. -/
theorem entry0 (c : Dev nD) : V m c main_v0 = kIn (argZ m c) := by
  show StableHlo.after (hostOps0) (fun b => m (c, b)) (Proc.tc.devRef main_v0) = _
  after_results
  rfl

/-- What the second operand of the grid holds. -/
theorem entry5 (c : Dev nD) : V m c main_v5 = kRowSq (argZ m c) := by
  show StableHlo.after (hostOps0) (fun b => m (c, b)) (Proc.tc.devRef main_v5) = _
  after_results
  rfl

/-- What the fourth operand of the grid holds. -/
theorem entry8 (c : Dev nD) : V m c main_v8 = kCodeSq (argC m c) := by
  show StableHlo.after (hostOps0) (fun b => m (c, b)) (Proc.tc.devRef main_v8) = _
  after_results
  rfl

/-- The input with its spatial axes as one, by the flattened input's rows. -/
theorem kIn_at (z : FVec Ideal S16x64x32x32 .f32) (b : Fin 16) (d : Fin 64) (r : Fin 1024) (n : Fin 16384) (hn : n.val = b.val * 1024 + r.val) :
    kIn z (ix3 b d r) = Cert.ReferenceIdeal.Hand.rows z (ix2 n d) := by
  rw [Cert.ReferenceIdeal.Hand.rows_at]
  pointwise [kIn]
  congr 1
  idx_ext

/-- A row's squared norm. -/
theorem kRowSq_at (z : FVec Ideal S16x64x32x32 .f32) (n : Fin 16384) :
    kRowSq z (ix2 n 0) = ∑ d : Fin 64, Cert.ReferenceIdeal.Hand.rows z (ix2 n d) * Cert.ReferenceIdeal.Hand.rows z (ix2 n d) := by
  simp only [Cert.ReferenceIdeal.Hand.rows_at]
  pointwise [kRowSq]

/-- A code word's squared norm. -/
theorem kCodeSq_at (cb : FVec Ideal S1024x64 .f32) (k : Fin 1024) :
    kCodeSq cb (ix2 0 k) = ∑ d : Fin 64, cb (ix2 k d) * cb (ix2 k d) := by
  pointwise [kCodeSq]

/-- The block of the input. -/
theorem blk0 (c : Dev nD) (t : Fin cfg0.N) (d : Fin 64) (r : Fin 1024) :
    (show FVec Ideal S1x64x1024 .f32 from iblk m c 0 t) (ix3 0 d r) = Cert.ReferenceIdeal.Hand.rows (argZ m c) (ix2 (row t r) d) := by
  blk_simp [iblk, idx t]
  refine (congrFun (entry0 m c) _).trans ?_
  have e : (win0_0.blk t).view.emb (ix3 0 d r) = (ix3 (⟨t.val, lt16 t⟩ : Fin 16) d r : S16x64x1024.Idx) := by blk_ext [idx t]
  exact (congrArg (kIn (argZ m c)) e).trans (kIn_at (argZ m c) _ d r (row t r) rfl)

/-- The block of the rows' squared norms. -/
theorem blk1 (c : Dev nD) (t : Fin cfg0.N) (r : Fin 1024) :
    (show FVec Ideal S1024x1 .f32 from iblk m c 1 t) (ix2 r 0) = ∑ d : Fin 64, Cert.ReferenceIdeal.Hand.rows (argZ m c) (ix2 (row t r) d) * Cert.ReferenceIdeal.Hand.rows (argZ m c) (ix2 (row t r) d) := by
  blk_simp [iblk, idx t]
  refine (congrFun (entry5 m c) _).trans ?_
  have e : (win0_1.blk t).view.emb (ix2 r 0) = (ix2 (row t r) 0 : S16384x1.Idx) := by blk_ext [idx t, row]
  exact (congrArg (kRowSq (argZ m c)) e).trans (kRowSq_at (argZ m c) (row t r))

/-- The block of the code book is the code book. -/
theorem blk2 (c : Dev nD) (t : Fin cfg0.N) : iblk m c 2 t = argC m c := by
  blk_ext! [iblk, V, idx t]

/-- The block of the code words' squared norms. -/
theorem blk3 (c : Dev nD) (t : Fin cfg0.N) (k : Fin 1024) :
    (show FVec Ideal S1x1024 .f32 from iblk m c 3 t) (ix2 0 k) = ∑ d : Fin 64, argC m c (ix2 k d) * argC m c (ix2 k d) := by
  blk_simp [iblk, idx t]
  refine (congrFun (entry8 m c) _).trans ?_
  have e : (win0_3.blk t).view.emb (ix2 0 k) = (ix2 0 k : S1x1024.Idx) := by blk_ext [idx t]
  exact (congrArg (kCodeSq (argC m c)) e).trans (kCodeSq_at (argC m c) k)

/-- All distances, by the reference's term. -/
abbrev D (c : Dev nD) : FVec Ideal Cert.ReferenceIdeal.S16384x1024 .f32 := Cert.ReferenceIdeal.Hand.dist (argZ m c) (argC m c)

/-- The position of the least distance of a row. -/
def pos (c : Dev nD) (n : Fin 16384) : Fin 1024 := near (Cert.ReferenceIdeal.Hand.drow (D m c) n)

/-- A row of a block's distances is a row of all distances. -/
theorem krow_eq (c : Dev nD) (t : Fin cfg0.N) (r : Fin 1024) :
    krow (iblk m c 0 t) (iblk m c 2 t) (iblk m c 1 t) (iblk m c 3 t) r = Cert.ReferenceIdeal.Hand.drow (D m c) (row t r) := by
  funext k
  unfold krow Cert.ReferenceIdeal.Hand.drow
  refine Eq.trans ?_ (Cert.ReferenceIdeal.Hand.dist_at (argZ m c) (argC m c) (row t r) k).symm
  refine (pay7_at _ _ _ _ r k).trans ?_
  rw [blk2 m c t]
  refine congrArg₂ (· - ·) (congrArg₂ (· + ·) (blk1 m c t r) (blk3 m c t k)) (congrArg _ (Finset.sum_congr rfl fun d _ => ?_))
  exact congrArg (· * _) (blk0 m c t d r)

end Cert.KernelIdeal.Hand

end
-- ==== Proof.KOuts.lean ====
/- What the kernel's body leaves at every grid point, as functions of all distances: a block of distances, of
   one-hot rows, of positions, of code words, and the two running sums. -/
module

public import proofs.«01_k».proof.Proof.KEntry

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Near

variable (m : (ℓ : Loc nD τ sig) → Buf (Elt Ideal) ℓ)

/-- A grid point is the first, one between, or the last. -/
theorem cases3 (t : Fin cfg0.N) : (t.val % 16 = 0 ∧ ¬t.val % 16 = 15) ∨ (¬t.val % 16 = 0 ∧ ¬t.val % 16 = 15) ∨ (¬t.val % 16 = 0 ∧ t.val % 16 = 15) := by omega

/-- The block of distances left at a point. -/
theorem outs4 (c : Dev nD) (t : Fin cfg0.N) : (outsAt0 m c t.val t.isLt).1 = k0_pay7 (F := Ideal) (iblk m c 0 t) (iblk m c 2 t) (iblk m c 1 t) (iblk m c 3 t) := by
  rcases cases3 t with ⟨h0, h1⟩ | ⟨h0, h1⟩ | ⟨h0, h1⟩
  · rw [outsAt0_A m c t h0 h1]; dsimp only; exact out0_A_4_eq (F := Ideal) ..
  · rw [outsAt0_B m c t h0 h1]; dsimp only; exact out0_B_4_eq (F := Ideal) ..
  · rw [outsAt0_C m c t h0 h1]; dsimp only; exact out0_C_4_eq (F := Ideal) ..

/-- The block of one-hot rows left at a point. -/
theorem outs5 (c : Dev nD) (t : Fin cfg0.N) : (outsAt0 m c t.val t.isLt).2.1 = k0_pay11 (F := Ideal) (iblk m c 0 t) (iblk m c 2 t) (iblk m c 1 t) (iblk m c 3 t) := by
  rcases cases3 t with ⟨h0, h1⟩ | ⟨h0, h1⟩ | ⟨h0, h1⟩
  · rw [outsAt0_A m c t h0 h1]; dsimp only; exact out0_A_5_eq (F := Ideal) ..
  · rw [outsAt0_B m c t h0 h1]; dsimp only; exact out0_B_5_eq (F := Ideal) ..
  · rw [outsAt0_C m c t h0 h1]; dsimp only; exact out0_C_5_eq (F := Ideal) ..

/-- The block of positions left at a point. -/
theorem outs6 (c : Dev nD) (t : Fin cfg0.N) : (outsAt0 m c t.val t.isLt).2.2.1 = k0_pay10 (F := Ideal) (iblk m c 0 t) (iblk m c 2 t) (iblk m c 1 t) (iblk m c 3 t) := by
  rcases cases3 t with ⟨h0, h1⟩ | ⟨h0, h1⟩ | ⟨h0, h1⟩
  · rw [outsAt0_A m c t h0 h1]; dsimp only; exact out0_A_6_eq (F := Ideal) ..
  · rw [outsAt0_B m c t h0 h1]; dsimp only; exact out0_B_6_eq (F := Ideal) ..
  · rw [outsAt0_C m c t h0 h1]; dsimp only; exact out0_C_6_eq (F := Ideal) ..

/-- The block of code words left at a point. -/
theorem outs7 (c : Dev nD) (t : Fin cfg0.N) : (outsAt0 m c t.val t.isLt).2.2.2.1 = k0_pay1 (F := Ideal) (k0_pay12 (F := Ideal) (iblk m c 0 t) (iblk m c 2 t) (iblk m c 1 t) (iblk m c 3 t)) := by
  rcases cases3 t with ⟨h0, h1⟩ | ⟨h0, h1⟩ | ⟨h0, h1⟩
  · rw [outsAt0_A m c t h0 h1]; dsimp only; exact out0_A_7_eq (F := Ideal) ..
  · rw [outsAt0_B m c t h0 h1]; dsimp only; exact out0_B_7_eq (F := Ideal) ..
  · rw [outsAt0_C m c t h0 h1]; dsimp only; exact out0_C_7_eq (F := Ideal) ..

/-- The counts held after a point. -/
def cnt (c : Dev nD) (n : Nat) (h : n < cfg0.N) : FVec Ideal S1x1024 .f32 := (outsAt0 m c n h).2.2.2.2.2.2.1

/-- The error held after a point. -/
def err (c : Dev nD) (n : Nat) (h : n < cfg0.N) : FVec Ideal S1x1 .f32 := (outsAt0 m c n h).2.2.2.2.2.2.2

/-- The first point's counts. -/
theorem cnt_first (c : Dev nD) (t : Fin cfg0.N) (h : t.val % 16 = 0) :
    cnt m c t.val t.isLt = k0_pay4 (F := Ideal) (k0_pay11 (F := Ideal) (iblk m c 0 t) (iblk m c 2 t) (iblk m c 1 t) (iblk m c 3 t)) (k0_pay2 (F := Ideal)) := by
  unfold cnt
  rw [outsAt0_A m c t h (by omega)]
  dsimp only
  exact sout0_A_0_eq (F := Ideal) ..

/-- A later point's counts. -/
theorem cnt_next (c : Dev nD) (t : Fin cfg0.N) (h : ¬t.val % 16 = 0) :
    cnt m c t.val t.isLt = k0_pay4 (F := Ideal) (k0_pay11 (F := Ideal) (iblk m c 0 t) (iblk m c 2 t) (iblk m c 1 t) (iblk m c 3 t))
      (cnt m c (t.val - 1) (Nat.lt_of_le_of_lt (Nat.sub_le _ _) t.isLt)) := by
  unfold cnt
  by_cases h1 : t.val % 16 = 15
  · rw [outsAt0_C m c t h h1]; dsimp only; exact sout0_C_0_eq (F := Ideal) ..
  · rw [outsAt0_B m c t h h1]; dsimp only; exact sout0_B_0_eq (F := Ideal) ..

/-- The first point's error. -/
theorem err_first (c : Dev nD) (t : Fin cfg0.N) (h : t.val % 16 = 0) :
    err m c t.val t.isLt = fun _ => k0_pay3 (F := Ideal) (k0_pay8 (F := Ideal) (iblk m c 0 t) (iblk m c 2 t) (iblk m c 1 t) (iblk m c 3 t)) (Scalar.ofBits (F := Ideal) .f32 0x00000000#32) := by
  unfold err
  rw [outsAt0_A m c t h (by omega)]
  dsimp only
  exact sout0_A_1_eq (F := Ideal) ..

/-- A later point's error. -/
theorem err_next (c : Dev nD) (t : Fin cfg0.N) (h : ¬t.val % 16 = 0) :
    err m c t.val t.isLt = fun _ => k0_pay3 (F := Ideal) (k0_pay8 (F := Ideal) (iblk m c 0 t) (iblk m c 2 t) (iblk m c 1 t) (iblk m c 3 t))
      (err m c (t.val - 1) (Nat.lt_of_le_of_lt (Nat.sub_le _ _) t.isLt) (Shape.Idx.first pos11)) := by
  unfold err
  by_cases h1 : t.val % 16 = 15
  · rw [outsAt0_C m c t h h1]; dsimp only; exact sout0_C_1_eq (F := Ideal) ..
  · rw [outsAt0_B m c t h h1]; dsimp only; exact sout0_B_1_eq (F := Ideal) ..

/-- The loss left at the last point, from the error held there. -/
theorem outs8 (c : Dev nD) (t : Fin cfg0.N) (h : t.val % 16 = 15) :
    (outsAt0 m c t.val t.isLt).2.2.2.2.1 = fun _ => k0_pay6 (F := Ideal) (err m c t.val t.isLt (Shape.Idx.first pos11)) := by
  rw [err_next m c t (by omega)]
  unfold err
  rw [outsAt0_C m c t (by omega) h]
  dsimp only
  exact out0_C_8_eq (F := Ideal) ..

/-- The perplexity left at the last point, from the counts held there. -/
theorem outs9 (c : Dev nD) (t : Fin cfg0.N) (h : t.val % 16 = 15) :
    (outsAt0 m c t.val t.isLt).2.2.2.2.2.1 = fun _ => k0_pay5 (F := Ideal) (cnt m c t.val t.isLt) := by
  rw [cnt_next m c t (by omega)]
  unfold cnt
  rw [outsAt0_C m c t (by omega) h]
  dsimp only
  exact out0_C_9_eq (F := Ideal) ..

/-- The distances left at a point, at an index. -/
theorem outs4_at (c : Dev nD) (t : Fin cfg0.N) (r k : Fin 1024) : (outsAt0 m c t.val t.isLt).1 (ix2 r k) = D m c (ix2 (row t r) k) := by
  rw [outs4 m c t]
  exact congrFun (krow_eq m c t r) k

/-- The one-hot rows left at a point, at an index. -/
theorem outs5_at (c : Dev nD) (t : Fin cfg0.N) (r k : Fin 1024) :
    (outsAt0 m c t.val t.isLt).2.1 (ix2 r k) = if k = pos m c (row t r) then (1 : EReal) else 0 := by
  rw [outs5 m c t]
  refine (pay11_at _ _ _ _ r k).trans ?_
  rw [krow_eq m c t r]
  rfl

/-- The positions left at a point, at an index. -/
theorem outs6_at (c : Dev nD) (t : Fin cfg0.N) (r : Fin 1024) :
    (outsAt0 m c t.val t.isLt).2.2.1 (ix3 0 0 r) = BitVec.ofNat 32 (pos m c (row t r)).val := by
  rw [outs6 m c t]
  refine (pay10_at _ _ _ _ r).trans ?_
  rw [krow_eq m c t r]
  rfl

/-- The code words left at a point, at an index. -/
theorem outs7_at (c : Dev nD) (t : Fin cfg0.N) (d : Fin 64) (r : Fin 1024) :
    (outsAt0 m c t.val t.isLt).2.2.2.1 (ix3 0 d r) = argC m c (ix2 (pos m c (row t r)) d) := by
  rw [outs7 m c t]
  refine (pay12_at _ _ _ _ d r).trans ?_
  rw [krow_eq m c t r, blk2 m c t]
  rfl

/-- The counts after the last point: over all rows, how often a position is the least. -/
theorem cnt_last (c : Dev nD) (k : Fin 1024) :
    cnt m c t0_15.val t0_15.isLt (ix2 0 k) = ∑ t : Fin cfg0.N, ∑ r : Fin 1024, if k = pos m c (row t r) then (1 : EReal) else 0 := by
  have key := Pipeline.eq_sum_fin_of_reset_step_apply_last (fun n h => fun k : Fin 1024 => cnt m c n h (ix2 0 k)) 16 (fun _ => 0)
    (fun t k => ∑ r : Fin 1024, if k = pos m c (row t r) then (1 : EReal) else 0)
    (fun t h k => by
      beta_reduce
      rw [cnt_first m c t h]
      refine (pay4_at _ _ k).trans (congrArg₂ (· + ·) (pay2_at k) (Finset.sum_congr rfl fun r _ => ?_))
      rw [← outs5 m c t]
      exact outs5_at m c t r k)
    (fun t h k => by
      beta_reduce
      rw [cnt_next m c t h]
      refine (pay4_at _ _ k).trans (congrArg₂ (· + ·) rfl (Finset.sum_congr rfl fun r _ => ?_))
      rw [← outs5 m c t]
      exact outs5_at m c t r k)
    (le_of_eq N_0) t0_15 rfl k
  exact key.trans (zero_add _)

/-- The error after the last point: the sum, over all rows, of the least distance. -/
theorem err_last (c : Dev nD) (j : S1x1.Idx) :
    err m c t0_15.val t0_15.isLt j = ∑ t : Fin cfg0.N, ∑ r : Fin 1024, D m c (ix2 (row t r) (pos m c (row t r))) := by
  have term (t : Fin cfg0.N) (r : Fin 1024) : k0_pay8 (F := Ideal) (iblk m c 0 t) (iblk m c 2 t) (iblk m c 1 t) (iblk m c 3 t) (ix2 r 0) = D m c (ix2 (row t r) (pos m c (row t r))) := by
    refine (pay8_at _ _ _ _ r).trans ?_
    rw [krow_eq m c t r]
    rfl
  have key := Pipeline.eq_sum_fin_of_reset_step_apply_last (fun n h => fun j : S1x1.Idx => err m c n h j) 16 (fun _ => 0)
    (fun t j => ∑ r : Fin 1024, D m c (ix2 (row t r) (pos m c (row t r))))
    (fun t h j => by
      beta_reduce
      rw [err_first m c t h]
      exact (pay3_at _ _).trans (congrArg₂ (· + ·) Ideal.ofBits_zero_f32 (Finset.sum_congr rfl fun r _ => term t r)))
    (fun t h j => by
      beta_reduce
      rw [err_next m c t h]
      exact (pay3_at _ _).trans (congrArg₂ (· + ·) (congrArg _ (one_elem _ _)) (Finset.sum_congr rfl fun r _ => term t r)))
    (le_of_eq N_0) t0_15 rfl j
  exact key.trans (zero_add _)

end Cert.KernelIdeal.Hand

end
-- ==== Proof.KArrays.lean ====
/- What the arrays of the kernel hold when it ends. -/
module

public import proofs.«01_k».proof.Proof.KOuts

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Near

variable (m : (ℓ : Loc nD τ sig) → Buf (Elt Ideal) ℓ)

/-- The one-hot rows of the least distances. -/
def E (c : Dev nD) : FVec Ideal S16384x1024 .f32 := fun j => if (show Fin 1024 from j 1) = pos m c (j 0) then (1 : EReal) else 0

/-- The positions of the least distances, by blocks of rows. -/
def I (c : Dev nD) : IVec S16x1x1024 32 := fun j => BitVec.ofNat 32 (pos m c ⟨(j 0).val * 1024 + (j 2).val, by
  have h0 : (j 0).val < 16 := (j 0).isLt
  have h2 : (j 2).val < 1024 := (j 2).isLt
  omega⟩).val

/-- The nearest code words, by blocks of rows. -/
def Q (c : Dev nD) : FVec Ideal S16x64x1024 .f32 := fun j => argC m c (ix2 (pos m c ⟨(j 0).val * 1024 + (j 2).val, by
  have h0 : (j 0).val < 16 := (j 0).isLt
  have h2 : (j 2).val < 1024 := (j 2).isLt
  omega⟩) (j 1))

/-- The array of distances. -/
theorem arr4 (c : Dev nD) : (dats m 0 c).arrAt 4 cfg0.N = D m c := by
  refine (dats m 0 c).arrAt_eq_of_covers 4 (D m c) (by decide +kernel) fun t hf y => ?_
  blk_simp
  rw [after0_4]
  obtain ⟨r, k, rfl⟩ : ∃ (r k : Fin 1024), y = (ix2 r k : S1024x1024.Idx) := ⟨y 0, y 1, eq_ix2 (n0 := 1024) (n1 := 1024) y⟩
  have e : (win0_4.blk t).view.emb (ix2 r k) = (ix2 (row t r) k : S16384x1024.Idx) := by blk_ext [idx t, row]
  exact (outs4_at m c t r k).trans (congrArg (D m c) e).symm

/-- The array of one-hot rows. -/
theorem arr5 (c : Dev nD) : (dats m 0 c).arrAt 5 cfg0.N = E m c := by
  refine (dats m 0 c).arrAt_eq_of_covers 5 (E m c) (by decide +kernel) fun t hf y => ?_
  blk_simp
  rw [after0_5]
  obtain ⟨r, k, rfl⟩ : ∃ (r k : Fin 1024), y = (ix2 r k : S1024x1024.Idx) := ⟨y 0, y 1, eq_ix2 (n0 := 1024) (n1 := 1024) y⟩
  have e : (win0_5.blk t).view.emb (ix2 r k) = (ix2 (row t r) k : S16384x1024.Idx) := by blk_ext [idx t, row]
  exact (outs5_at m c t r k).trans (congrArg (E m c) e).symm

/-- The array of positions. -/
theorem arr6 (c : Dev nD) : (dats m 0 c).arrAt 6 cfg0.N = I m c := by
  refine (dats m 0 c).arrAt_eq_of_covers 6 (I m c) (by decide +kernel) fun t hf y => ?_
  blk_simp
  rw [after0_6]
  obtain ⟨a, b, r, rfl⟩ : ∃ (a b : Fin 1) (r : Fin 1024), y = (ix3 a b r : S1x1x1024.Idx) := ⟨y 0, y 1, y 2, eq_ix3 (n0 := 1) (n1 := 1) (n2 := 1024) y⟩
  obtain rfl : a = 0 := Subsingleton.elim _ _
  obtain rfl : b = 0 := Subsingleton.elim _ _
  have e : (win0_6.blk t).view.emb (ix3 0 0 r) = (ix3 (⟨t.val, lt16 t⟩ : Fin 16) 0 r : S16x1x1024.Idx) := by blk_ext [idx t]
  exact (outs6_at m c t r).trans (congrArg (I m c) e).symm

/-- The array of code words. -/
theorem arr7 (c : Dev nD) : (dats m 0 c).arrAt 7 cfg0.N = Q m c := by
  refine (dats m 0 c).arrAt_eq_of_covers 7 (Q m c) (by decide +kernel) fun t hf y => ?_
  blk_simp
  rw [after0_7]
  obtain ⟨a, d, r, rfl⟩ : ∃ (a : Fin 1) (d : Fin 64) (r : Fin 1024), y = (ix3 a d r : S1x64x1024.Idx) := ⟨y 0, y 1, y 2, eq_ix3 (n0 := 1) (n1 := 64) (n2 := 1024) y⟩
  obtain rfl : a = 0 := Subsingleton.elim _ _
  have e : (win0_7.blk t).view.emb (ix3 0 d r) = (ix3 (⟨t.val, lt16 t⟩ : Fin 16) d r : S16x64x1024.Idx) := by blk_ext [idx t]
  exact (outs7_at m c t d r).trans (congrArg (Q m c) e).symm

/-- The array of the loss. -/
theorem arr8 (c : Dev nD) : (dats m 0 c).arrAt 8 cfg0.N = fun _ => k0_pay6 (F := Ideal) (err m c t0_15.val t0_15.isLt (Shape.Idx.first pos11)) := by
  refine (dats m 0 c).arrAt_eq_of_after_last 8 t0_15 (by decide +kernel) _ fun j => ?_
  blk_simp
  rw [after0_8, outs8 m c t0_15 rfl]

/-- The array of the perplexity. -/
theorem arr9 (c : Dev nD) : (dats m 0 c).arrAt 9 cfg0.N = fun _ => k0_pay5 (F := Ideal) (cnt m c t0_15.val t0_15.isLt) := by
  refine (dats m 0 c).arrAt_eq_of_after_last 9 t0_15 (by decide +kernel) _ fun j => ?_
  blk_simp
  rw [after0_9, outs9 m c t0_15 rfl]

/-- The arrays of the windows are distinct. -/
theorem arr_inj : Function.Injective (Pipeline.arrRef spec0) := by
  intro a b
  revert a b
  decide +kernel

/-- A one-by-one array reshaped to a scalar. -/
theorem scalar_of_one (a : FVec Ideal S1x1 .f32) (x : EReal) (h : a = fun _ => x) : shapeCast S_ a shapeCasts_S1x1_S_ = fun _ => x := by
  subst h
  rfl

/-- The arrays when the region ends. -/
abbrev VA (c : Dev nD) : Valuation τ sig (Elt Ideal) :=
  Pipeline.withArrays (cfgs 0).spec c (V0 m c) fun w => (dats m 0 c).arrAt w (cfgs 0).N

/-- The positions, as one axis. -/
theorem tail10 (c : Dev nD) : Pipeline.afterTail₀ cfgs (dats m) 0 (V0 m) [hostOps1] c main_v10 = shapeCast _ (I m c) shapeCasts_S16x1x1024_S16384 := by
  rw [← arr6 m c]
  show StableHlo.after hostOps1 (VA m c) (Proc.tc.devRef main_v10) = _
  after_results
  exact congrArg (fun v => shapeCast S16384 v shapeCasts_S16x1x1024_S16384) (Pipeline.withArrays_arr spec0 arr_inj c (V0 m c) (fun w => (dats m 0 c).arrAt w (cfgs 0).N) 6)

/-- The code words, with the spatial axes apart. -/
theorem tail11 (c : Dev nD) : Pipeline.afterTail₀ cfgs (dats m) 0 (V0 m) [hostOps1] c main_v11 = shapeCast _ (Q m c) shapeCasts_S16x64x1024_S16x64x32x32 := by
  rw [← arr7 m c]
  show StableHlo.after hostOps1 (VA m c) (Proc.tc.devRef main_v11) = _
  after_results
  exact congrArg (fun v => shapeCast S16x64x32x32 v shapeCasts_S16x64x1024_S16x64x32x32) (Pipeline.withArrays_arr spec0 arr_inj c (V0 m c) (fun w => (dats m 0 c).arrAt w (cfgs 0).N) 7)

/-- The loss, as a scalar. -/
theorem tail12 (c : Dev nD) : Pipeline.afterTail₀ cfgs (dats m) 0 (V0 m) [hostOps1] c main_v12 = fun _ => k0_pay6 (F := Ideal) (err m c t0_15.val t0_15.isLt (Shape.Idx.first pos11)) := by
  have h : StableHlo.after hostOps1 (VA m c) (Proc.tc.devRef main_v12) = shapeCast S_ ((dats m 0 c).arrAt 8 cfg0.N) shapeCasts_S1x1_S_ := by
    after_results
    exact congrArg (fun v => shapeCast S_ v shapeCasts_S1x1_S_) (Pipeline.withArrays_arr spec0 arr_inj c (V0 m c) (fun w => (dats m 0 c).arrAt w (cfgs 0).N) 8)
  exact h.trans (scalar_of_one _ _ (arr8 m c))

/-- The perplexity, as a scalar. -/
theorem tail13 (c : Dev nD) : Pipeline.afterTail₀ cfgs (dats m) 0 (V0 m) [hostOps1] c main_v13 = fun _ => k0_pay5 (F := Ideal) (cnt m c t0_15.val t0_15.isLt) := by
  have h : StableHlo.after hostOps1 (VA m c) (Proc.tc.devRef main_v13) = shapeCast S_ ((dats m 0 c).arrAt 9 cfg0.N) shapeCasts_S1x1_S_ := by
    after_results
    exact congrArg (fun v => shapeCast S_ v shapeCasts_S1x1_S_) (Pipeline.withArrays_arr spec0 arr_inj c (V0 m c) (fun w => (dats m 0 c).arrAt w (cfgs 0).N) 9)
  exact h.trans (scalar_of_one _ _ (arr9 m c))

/-- Every run of the kernel ends with its six results at these values and its arguments as they were. -/
theorem run (ρ : Dev nD → PrngReg) : θ_run defs (onTc (τ := τ) (main (F := Ideal))) ⟨m, fun _ => 0, ρ⟩ (fun r => ∀ c : Dev nD,
    r.2.mem ((c : Thread nD τ).loc main_v11) = shapeCast _ (Q m c) shapeCasts_S16x64x1024_S16x64x32x32
    ∧ r.2.mem ((c : Thread nD τ).loc main_v12) = (fun _ => k0_pay6 (F := Ideal) (err m c t0_15.val t0_15.isLt (Shape.Idx.first pos11)))
    ∧ r.2.mem ((c : Thread nD τ).loc main_v13) = (fun _ => k0_pay5 (F := Ideal) (cnt m c t0_15.val t0_15.isLt))
    ∧ r.2.mem ((c : Thread nD τ).loc main_v9_1) = E m c
    ∧ r.2.mem ((c : Thread nD τ).loc main_v10) = shapeCast _ (I m c) shapeCasts_S16x1x1024_S16384
    ∧ r.2.mem ((c : Thread nD τ).loc main_v9_0) = D m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun r h c =>
    ⟨((h.1 c).2 main_v11 (Pipeline.mem_restRefs_of main_v11 (by decide) (by decide))).trans (tail11 m c),
     ((h.1 c).2 main_v12 (Pipeline.mem_restRefs_of main_v12 (by decide) (by decide))).trans (tail12 m c),
     ((h.1 c).2 main_v13 (Pipeline.mem_restRefs_of main_v13 (by decide) (by decide))).trans (tail13 m c),
     ((h.1 c).1 5).trans (arr5 m c),
     ((h.1 c).2 main_v10 (Pipeline.mem_restRefs_of main_v10 (by decide) (by decide))).trans (tail10 m c),
     ((h.1 c).1 4).trans (arr4 m c), (h.2 c).1, (h.2 c).2⟩)
    (θ_run_and (run_main m ρ) (unchanged m ρ))

end Cert.KernelIdeal.Hand

end
-- ==== Proof.Finite.lean ====
/- The precondition, read back: both arguments hold real numbers. And the distance from a row to a code word as
   the squared length of their difference, which needs it. -/
module

public import proofs.«01_k».proof.Pre_finite
public import proofs.«01_k».proof.Proof.RBlock
public import Idealize.ShloMosaic.Lib.ReduceAll
public import Idealize.ShloMosaic.Lib.Pointwise

@[expose] public section

set_option maxRecDepth 16384

noncomputable section

open Idealize.ShloMosaic

namespace Cert.Finite

open Cert.Consts

/-- The side conditions of the precondition's operations. -/
theorem facts : Cert.Pre_finite.Facts where
  bcast_S_S16x64x32x32 := by decide
  reducesTo_S16x64x32x32_S_d0_1_2_3 := by decide
  h_S_ := by decide
  bcast_S_S1024x64 := by decide
  reducesTo_S1024x64_S_d0_1 := by decide

/-- A number whose absolute value is below infinity is real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have h' : BitVec.ofBool (decide (max x (-x) < Ideal.ofBits .f32 0x7F800000#32)) = 1#1 := h
  rw [inf_word] at h'
  have lt : max x (-x) < (⊤ : EReal) := by
    by_contra hn
    rw [decide_eq_false hn] at h'
    exact absurd h' (by decide)
  induction x using EReal.rec with
  | bot => simp at lt
  | top => simp at lt
  | coe r => exact ⟨r, rfl⟩

/-- Where the precondition holds, every entry of both arguments is real. -/
theorem real_of_pre [Cert.Pre_finite.Facts] (z : FVec Ideal Cert.Pre_finite.S16x64x32x32 .f32) (cb : FVec Ideal Cert.Pre_finite.S1024x64 .f32)
    (j : Cert.Pre_finite.S_.Idx) (h : Cert.Pre_finite.fn z cb j = 1#1) :
    (∀ i, ∃ r : ℝ, z i = (r : EReal)) ∧ ∀ i, ∃ r : ℝ, cb i = (r : EReal) := by
  unfold Cert.Pre_finite.fn at h
  obtain ⟨hz, hc⟩ := IntOp.andi_eq_one.1 h
  haveI : Subsingleton Cert.Pre_finite.S_.Idx := ⟨fun a b => funext fun d => d.elim0⟩
  exact ⟨fun i => real_of_lt (z i) (Host.reduce_andi_all _ _ _ _ j hz i), fun i => real_of_lt (cb i) (Host.reduce_andi_all _ _ _ _ j hc i)⟩

/-- A sum of real numbers is real. -/
theorem coe_sum {n : Nat} (f : Fin n → ℝ) : ∑ i, (f i : EReal) = ((∑ i, f i : ℝ) : EReal) := by
  induction n with
  | zero => simp
  | succ n ih => rw [Fin.sum_univ_succ, Fin.sum_univ_succ, ih, EReal.coe_add]

/-- For real vectors: their squared lengths less twice their product is the squared length of the difference. -/
theorem square {n : Nat} (a b : Fin n → EReal) (ha : ∀ i, ∃ r : ℝ, a i = (r : EReal)) (hb : ∀ i, ∃ r : ℝ, b i = (r : EReal)) :
    ∑ i, a i * a i + ∑ i, b i * b i - Ideal.ofBits .f32 0x40000000#32 * ∑ i, a i * b i = ∑ i, (b i - a i) * (b i - a i) := by
  choose x hx using ha
  choose y hy using hb
  obtain rfl : a = fun i => (x i : EReal) := funext hx
  obtain rfl : b = fun i => (y i : EReal) := funext hy
  rw [two_word]
  simp only [← EReal.coe_mul, ← EReal.coe_sub, coe_sum, ← EReal.coe_add]
  refine congrArg _ ?_
  rw [Finset.mul_sum, ← Finset.sum_add_distrib, ← Finset.sum_sub_distrib]
  exact Finset.sum_congr rfl fun i _ => by ring

/-- Going from one real number to another by their difference. -/
theorem add_sub (a b : EReal) (ha : ∃ r : ℝ, a = (r : EReal)) (hb : ∃ r : ℝ, b = (r : EReal)) : a + (b - a) = b := by
  obtain ⟨x, rfl⟩ := ha
  obtain ⟨y, rfl⟩ := hb
  rw [← EReal.coe_sub, ← EReal.coe_add]
  exact congrArg _ (by ring)

end Cert.Finite

end
-- ==== Proof.Equation.lean ====
/- The equation: each result of the kernel is the reference's. -/
module

public import proofs.«01_k».proof.Proof.KArrays
public import proofs.«01_k».proof.Proof.Finite

@[expose] public section

set_option maxRecDepth 16384

noncomputable section

open Idealize.ShloMosaic Idealize.ShloMosaic.TcCoe Idealize.SL.Sem

namespace Cert.KernelIdeal.Hand

open Cert.KernelIdeal Cert.KernelIdeal.Gen Cert.Near Cert.Consts Cert.Finite

variable (m : (ℓ : Loc nD τ sig) → Buf (Elt Ideal) ℓ)

/-- The reference's positions, at a row. -/
theorem argm_pos (c : Dev nD) (n : Fin 16384) : Cert.ReferenceIdeal.Hand.argm (D m c) (ix1 n) = BitVec.ofNat 32 (pos m c n).val :=
  Cert.ReferenceIdeal.Hand.argm_at (D m c) n

/-- The one-hot rows are the reference's. -/
theorem E_eq (c : Dev nD) : E m c = Cert.ReferenceIdeal.Hand.onehot (Cert.ReferenceIdeal.Hand.argm (D m c)) := by
  funext j
  obtain ⟨n, k, rfl⟩ : ∃ (n : Fin 16384) (k : Fin 1024), j = ix2 n k := ⟨j 0, j 1, eq_ix2 j⟩
  exact (Cert.ReferenceIdeal.Hand.onehot_at _ n (pos m c n) k (argm_pos m c n)).symm

/-- The positions are the reference's. -/
theorem I_eq (c : Dev nD) : shapeCast S16384 (I m c) shapeCasts_S16x1x1024_S16384 = Cert.ReferenceIdeal.Hand.argm (D m c) := by
  funext j
  obtain ⟨n, rfl⟩ : ∃ n : Fin 16384, j = ix1 n := ⟨j 0, eq_ix1 j⟩
  refine Eq.trans ?_ (argm_pos m c n).symm
  pointwise []
  unfold I
  refine congrArg (fun a => BitVec.ofNat 32 (pos m c a).val) (Fin.ext ?_)
  show n.val / 1024 * 1024 + n.val % 1024 = n.val
  omega

/-- The reference's nearest code words, laid out as the input. -/
abbrev near4 (c : Dev nD) : FVec Ideal S16x64x32x32 .f32 :=
  Cert.ReferenceIdeal.Hand.unrows (Cert.ReferenceIdeal.Hand.taken (argC m c) (Cert.ReferenceIdeal.Hand.argm (D m c)))

/-- The row of the flattened input of a batch and a place. -/
def row4 (b : Fin 16) (h w : Fin 32) : Fin 16384 := ⟨b.val * 1024 + h.val * 32 + w.val, by omega⟩

/-- The reference's nearest code words at an index. -/
theorem near4_at (c : Dev nD) (b : Fin 16) (d : Fin 64) (h w : Fin 32) : near4 m c (ix4 b d h w) = argC m c (ix2 (pos m c (row4 b h w)) d) :=
  (Cert.ReferenceIdeal.Hand.unrows_at _ b d h w).trans
    (Cert.ReferenceIdeal.Hand.taken_at (argC m c) _ _ d (pos m c (row4 b h w)) (argm_pos m c (row4 b h w)))

/-- The kernel's code words are the reference's. -/
theorem Q_eq (c : Dev nD) : shapeCast S16x64x32x32 (Q m c) shapeCasts_S16x64x1024_S16x64x32x32 = near4 m c := by
  funext j
  obtain ⟨b, d, h, w, rfl⟩ : ∃ (b : Fin 16) (d : Fin 64) (h w : Fin 32), j = ix4 b d h w := ⟨j 0, j 1, j 2, j 3, eq_ix4 j⟩
  refine Eq.trans ?_ (near4_at m c b d h w).symm
  pointwise []
  unfold Q
  refine congrArg (fun a => argC m c (ix2 (pos m c a) d)) (Fin.ext ?_)
  show b.val * 1024 + (h.val * 32 + w.val) = b.val * 1024 + h.val * 32 + w.val
  omega

/-- A sum over the blocks and their rows is the sum over all rows. -/
theorem sum_rows (f : Fin 16384 → EReal) : ∑ t : Fin cfg0.N, ∑ r : Fin 1024, f (row t r) = ∑ n : Fin 16384, f n := by
  rw [Fin.sum_univ_tiles 16 1024 rfl f]
  exact Fintype.sum_equiv (finCongr N_0) _ _ fun t => rfl

/-- A sum over all rows is the sum over batches and places. -/
theorem sum_row4 (f : Fin 16384 → EReal) : ∑ n : Fin 16384, f n = ∑ b : Fin 16, ∑ h : Fin 32, ∑ w : Fin 32, f (row4 b h w) := by
  rw [Fin.sum_univ_tiles 16 1024 rfl f]
  refine Finset.sum_congr rfl fun b _ => ?_
  rw [Fin.sum_univ_tiles 32 32 rfl]
  refine Finset.sum_congr rfl fun h _ => Finset.sum_congr rfl fun w _ => congrArg f (Fin.ext ?_)
  show b.val * 1024 + (h.val * 32 + w.val) = b.val * 1024 + h.val * 32 + w.val
  omega

/-- The perplexity is the reference's. -/
theorem perp_eq (c : Dev nD) : (fun _ => k0_pay5 (F := Ideal) (cnt m c t0_15.val t0_15.isLt))
    = Cert.ReferenceIdeal.Hand.perp (Cert.ReferenceIdeal.Hand.onehot (Cert.ReferenceIdeal.Hand.argm (D m c))) := by
  funext j
  rw [← E_eq m c]
  refine (pay5_eq _).trans (Eq.trans ?_ (Cert.ReferenceIdeal.Hand.perp_eq (E m c) j).symm)
  rw [zero_sub]
  refine congrArg (fun x => Ideal.exp (-x)) (Finset.sum_congr rfl fun k _ => ?_)
  have e : cnt m c t0_15.val t0_15.isLt (ix2 0 k) = ∑ n : Fin 16384, E m c (ix2 n k) :=
    (cnt_last m c k).trans (sum_rows fun n => E m c (ix2 n k))
  rw [e, div_rows]

variable {m}

/-- The straight-through output is the kernel's code words. -/
theorem through_eq (c : Dev nD) (hz : ∀ i, ∃ r : ℝ, argZ m c i = (r : EReal)) (hc : ∀ i, ∃ r : ℝ, argC m c i = (r : EReal)) :
    shapeCast S16x64x32x32 (Q m c) shapeCasts_S16x64x1024_S16x64x32x32 = Cert.ReferenceIdeal.Hand.through (near4 m c) (argZ m c) := by
  rw [Q_eq m c]
  funext j
  refine Eq.trans ?_ (Cert.ReferenceIdeal.Hand.through_eq (argZ m c) (near4 m c) j).symm
  refine (add_sub _ _ (hz j) ?_).symm
  obtain ⟨b, d, h, w, rfl⟩ : ∃ (b : Fin 16) (d : Fin 64) (h w : Fin 32), j = ix4 b d h w := ⟨j 0, j 1, j 2, j 3, eq_ix4 j⟩
  obtain ⟨r, hr⟩ := hc (ix2 (pos m c (row4 b h w)) d)
  exact ⟨r, (near4_at m c b d h w).trans hr⟩

/-- The least distance of a row, as squared differences of the input from the nearest code word. -/
theorem least_eq (c : Dev nD) (hz : ∀ i, ∃ r : ℝ, argZ m c i = (r : EReal)) (hc : ∀ i, ∃ r : ℝ, argC m c i = (r : EReal))
    (b : Fin 16) (h w : Fin 32) : D m c (ix2 (row4 b h w) (pos m c (row4 b h w)))
    = ∑ d : Fin 64, (near4 m c (ix4 b d h w) - argZ m c (ix4 b d h w)) * (near4 m c (ix4 b d h w) - argZ m c (ix4 b d h w)) := by
  refine (Cert.ReferenceIdeal.Hand.dist_at (argZ m c) (argC m c) (row4 b h w) (pos m c (row4 b h w))).trans ?_
  have rz (d : Fin 64) : Cert.ReferenceIdeal.Hand.rows (argZ m c) (ix2 (row4 b h w) d) = argZ m c (ix4 b d h w) := by
    refine (Cert.ReferenceIdeal.Hand.rows_at (argZ m c) (row4 b h w) d).trans (congrArg (argZ m c) ?_)
    unfold row4
    congr 1 <;> exact Fin.ext (by dsimp only; omega)
  simp only [rz, near4_at m c]
  exact square _ _ (fun d => hz _) fun d => hc _

/-- The loss is the reference's. -/
theorem loss_eq (c : Dev nD) (hz : ∀ i, ∃ r : ℝ, argZ m c i = (r : EReal)) (hc : ∀ i, ∃ r : ℝ, argC m c i = (r : EReal)) :
    (fun _ => k0_pay6 (F := Ideal) (err m c t0_15.val t0_15.isLt (Shape.Idx.first pos11))) = Cert.ReferenceIdeal.Hand.loss (near4 m c) (argZ m c) := by
  funext j
  refine (pay6_eq _).trans (Eq.trans ?_ (Cert.ReferenceIdeal.Hand.loss_eq (argZ m c) (near4 m c) j).symm)
  have e : Ideal.div (err m c t0_15.val t0_15.isLt (Shape.Idx.first pos11)) (Ideal.ofBits .f32 0x49800000#32) = Cert.ReferenceIdeal.Hand.mse (near4 m c) (argZ m c) j := by
    refine Eq.trans ?_ (Cert.ReferenceIdeal.Hand.mse_eq (argZ m c) (near4 m c) j).symm
    refine congrArg (fun x => Ideal.div x (Ideal.ofBits .f32 0x49800000#32)) ?_
    refine (err_last m c _).trans ((sum_rows fun n => D m c (ix2 n (pos m c n))).trans ((sum_row4 _).trans ?_))
    refine Finset.sum_congr rfl fun b _ => ?_
    calc ∑ h : Fin 32, ∑ w : Fin 32, D m c (ix2 (row4 b h w) (pos m c (row4 b h w)))
        = ∑ h : Fin 32, ∑ w : Fin 32, ∑ d : Fin 64, (near4 m c (ix4 b d h w) - argZ m c (ix4 b d h w)) * (near4 m c (ix4 b d h w) - argZ m c (ix4 b d h w)) :=
          Finset.sum_congr rfl fun h _ => Finset.sum_congr rfl fun w _ => least_eq c hz hc b h w
      _ = ∑ h : Fin 32, ∑ d : Fin 64, ∑ w : Fin 32, (near4 m c (ix4 b d h w) - argZ m c (ix4 b d h w)) * (near4 m c (ix4 b d h w) - argZ m c (ix4 b d h w)) :=
          Finset.sum_congr rfl fun h _ => Finset.sum_comm
      _ = _ := Finset.sum_comm
  rw [e]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The side conditions of the precondition's operations, as an instance. -/
local instance preFacts : Cert.Pre_finite.Facts := Cert.Finite.facts

/-- The reference terminates without fault, leaves its arguments as they were, and has no semaphore. -/
theorem refFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2.2.2.2, sem_eq_zero_of_no_sems (by decide) r.2⟩)
    (Cert.ReferenceIdeal.Hand.run (F := Ideal) m g)

/-- Over the extended reals, from real arguments, the kernel's six results are the reference's. -/
theorem algebraic : Cert.algebraic_KernelIdeal_ReferenceIdeal_pre_finite := by
  intro m g m' g' hpre hagree
  have hz (c : Dev Cert.KernelIdeal.nD) := (Cert.Finite.real_of_pre _ _ (fun d => d.elim0) (congrFun (hpre c) (fun d => d.elim0))).1
  have hc (c : Dev Cert.KernelIdeal.nD) := (Cert.Finite.real_of_pre _ _ (fun d => d.elim0) (congrFun (hpre c) (fun d => d.elim0))).2
  refine ⟨fun c => Cert.ReferenceIdeal.Hand.through (Cert.KernelIdeal.Hand.near4 m c) (Cert.KernelIdeal.Hand.argZ m c),
    fun c => Cert.ReferenceIdeal.Hand.loss (Cert.KernelIdeal.Hand.near4 m c) (Cert.KernelIdeal.Hand.argZ m c),
    fun c => Cert.ReferenceIdeal.Hand.perp (F := Ideal) (Cert.ReferenceIdeal.Hand.onehot (F := Ideal) (Cert.ReferenceIdeal.Hand.argm (Cert.KernelIdeal.Hand.D m c))),
    fun c => Cert.ReferenceIdeal.Hand.onehot (F := Ideal) (Cert.ReferenceIdeal.Hand.argm (Cert.KernelIdeal.Hand.D m c)),
    fun c => Cert.ReferenceIdeal.Hand.argm (Cert.KernelIdeal.Hand.D m c), fun c => Cert.KernelIdeal.Hand.D m c, ?_, ?_⟩
  · refine (θ_run Cert.KernelIdeal.defs _ _).mono (fun r h c => ?_) (Cert.KernelIdeal.Hand.run m g)
    obtain ⟨h0, h1, h2, h3, h4, h5, h6, h7⟩ := h c
    exact ⟨h0.trans (Cert.KernelIdeal.Hand.through_eq c (hz c) (hc c)), h1.trans (Cert.KernelIdeal.Hand.loss_eq c (hz c) (hc c)),
      h2.trans (Cert.KernelIdeal.Hand.perp_eq m c), h3.trans (Cert.KernelIdeal.Hand.E_eq m c), h4.trans (Cert.KernelIdeal.Hand.I_eq m c), h5, h6, h7⟩
  · refine (θ_run Cert.ReferenceIdeal.defs _ _).mono (fun r h c => ?_) (Cert.ReferenceIdeal.Hand.run (F := Ideal) m' g')
    have e0 : Cert.ReferenceIdeal.Hand.argZ m' c = Cert.KernelIdeal.Hand.argZ m c := (hagree c).1
    have e1 : Cert.ReferenceIdeal.Hand.argC m' c = Cert.KernelIdeal.Hand.argC m c := (hagree c).2
    obtain ⟨h0, h1, h2, h3, h4, h5, h6, h7⟩ := h c
    rw [e0, e1] at h0 h1 h2 h3 h4 h5
    exact ⟨h0, h1, h2, h3, h4, h5, h6, h7⟩

/-- All claims. -/
theorem claim : Cert.Claim := ⟨Cert.Kernel.Gen.facts, Cert.KernelIdeal.Gen.facts, Cert.ReferenceIdeal.Gen.facts, Cert.Finite.facts,
  fun m g _ => Cert.Kernel.Gen.frame m g, fun m g _ => Cert.KernelIdeal.Gen.frame m g, fun m g _ => Cert.KernelIdeal.Gen.frame m g,
  fun m g _ => refFrame m g, fun m g _ => refFrame m g, trivial, algebraic⟩

end Cert.Proof

end
